-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256x3 : Shape := ⟨3, ![16384, 256, 3]⟩
abbrev S192 : Shape := ⟨1, ![192]⟩
abbrev S12582912 : Shape := ⟨1, ![12582912]⟩
abbrev S3145728 : Shape := ⟨1, ![3145728]⟩
abbrev S9437184 : Shape := ⟨1, ![9437184]⟩
abbrev S24576 : Shape := ⟨1, ![24576]⟩
abbrev S6144 : Shape := ⟨1, ![6144]⟩
abbrev S18432 : Shape := ⟨1, ![18432]⟩
abbrev S_ : Shape := ⟨0, ![]⟩
abbrev S16 : Shape := ⟨1, ![16]⟩
abbrev S16384x64x3 : Shape := ⟨3, ![16384, 64, 3]⟩
abbrev S16384x192x3 : Shape := ⟨3, ![16384, 192, 3]⟩

abbrev nBuf : Table → Nat
  | .hbm => 7
  | .local .scVector .vmem => 4
  | _ => 0

abbrev bufTy : (tb : Table) → Fin (nBuf tb) → BufTy
  | .hbm, ⟨0, _⟩ => ⟨S16384x256x3, .f32⟩
  | .hbm, ⟨1, _⟩ => ⟨S192, .i32⟩
  | .hbm, ⟨2, _⟩ => ⟨S12582912, .f32⟩
  | .hbm, ⟨3, _⟩ => ⟨S3145728, .f32⟩
  | .hbm, ⟨4, _⟩ => ⟨S9437184, .f32⟩
  | .hbm, ⟨5, _⟩ => ⟨S16384x64x3, .f32⟩
  | .hbm, ⟨6, _⟩ => ⟨S16384x192x3, .f32⟩
  | .local .scVector .vmem, ⟨0, _⟩ => ⟨S192, .i32⟩
  | .local .scVector .vmem, ⟨1, _⟩ => ⟨S24576, .f32⟩
  | .local .scVector .vmem, ⟨2, _⟩ => ⟨S6144, .f32⟩
  | .local .scVector .vmem, ⟨3, _⟩ => ⟨S18432, .f32⟩
  | _, _ => ⟨S16384x256x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 2, rfl⟩
abbrev main_c_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg10 : BitVec 32 := Scf.iv c0_i32 c1_i32 k0_t1
  let c32_i32 : BitVec 32 := 32#32
  let v16 : BitVec 32 := Scalar.muli arg10 c32_i32
  let v17 : BitVec 32 := Scalar.addi v2 v16
  let c768_i32 : BitVec 32 := 768#32
  let v18 : BitVec 32 := Scalar.muli v17 c768_i32
  ![v18.toNat]
@[reducible] def k0_t2_loop : Scf.Loop 32 :=
  let c0_i32_1 : BitVec 32 := 0#32
  let c32_i32_2 : BitVec 32 := 32#32
  let v19 : BitVec 32 := Scalar.addi c0_i32_1 c32_i32_2
  let c1_i32_3 : BitVec 32 := 1#32
  ⟨c0_i32_1, v19, c1_i32_3⟩

def k0_chk1 (v25 : IVec S16 32) : Prop :=
  (∀ a x, ((![v25] : Fin 1 → IVec S16 32) a x).toNat < S24576.size a)
theorem k0_idx1_inb : ∀ (v25 : IVec S16 32) (k0_hw1 : k0_chk1 v25), ∀ a x, ((![v25] : Fin 1 → IVec S16 32) a x).toNat < S24576.size a := fun v25 k0_hw1 => k0_hw1
def k0_off2 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_7 : BitVec 32 := 192#32
  let v27 : BitVec 32 := Scalar.muli arg11 c192_i32_7
  let c0_i32_8 : BitVec 32 := 0#32
  let v28 : BitVec 32 := Scalar.addi v27 c0_i32_8
  let c0_i32_9 : BitVec 32 := 0#32
  let v29 : BitVec 32 := Scalar.addi v28 c0_i32_9
  let v30 : Index := Scalar.indexCast v29
  ![v30.toNat]

def k0_chk2 (v33 : IVec S16 32) : Prop :=
  (∀ a x, ((![v33] : Fin 1 → IVec S16 32) a x).toNat < S24576.size a)
theorem k0_idx2_inb : ∀ (v33 : IVec S16 32) (k0_hw2 : k0_chk2 v33), ∀ a x, ((![v33] : Fin 1 → IVec S16 32) a x).toNat < S24576.size a := fun v33 k0_hw2 => k0_hw2
def k0_off3 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_10 : BitVec 32 := 192#32
  let v35 : BitVec 32 := Scalar.muli arg11 c192_i32_10
  let c0_i32_11 : BitVec 32 := 0#32
  let v36 : BitVec 32 := Scalar.addi v35 c0_i32_11
  let c16_i32_12 : BitVec 32 := 16#32
  let v37 : BitVec 32 := Scalar.addi v36 c16_i32_12
  let v38 : Index := Scalar.indexCast v37
  ![v38.toNat]

def k0_chk3 (v41 : IVec S16 32) : Prop :=
  (∀ a x, ((![v41] : Fin 1 → IVec S16 32) a x).toNat < S24576.size a)
theorem k0_idx3_inb : ∀ (v41 : IVec S16 32) (k0_hw3 : k0_chk3 v41), ∀ a x, ((![v41] : Fin 1 → IVec S16 32) a x).toNat < S24576.size a := fun v41 k0_hw3 => k0_hw3
def k0_off4 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_13 : BitVec 32 := 192#32
  let v43 : BitVec 32 := Scalar.muli arg11 c192_i32_13
  let c0_i32_14 : BitVec 32 := 0#32
  let v44 : BitVec 32 := Scalar.addi v43 c0_i32_14
  let c32_i32_15 : BitVec 32 := 32#32
  let v45 : BitVec 32 := Scalar.addi v44 c32_i32_15
  let v46 : Index := Scalar.indexCast v45
  ![v46.toNat]

def k0_chk4 (v49 : IVec S16 32) : Prop :=
  (∀ a x, ((![v49] : Fin 1 → IVec S16 32) a x).toNat < S24576.size a)
theorem k0_idx4_inb : ∀ (v49 : IVec S16 32) (k0_hw4 : k0_chk4 v49), ∀ a x, ((![v49] : Fin 1 → IVec S16 32) a x).toNat < S24576.size a := fun v49 k0_hw4 => k0_hw4
def k0_off5 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_16 : BitVec 32 := 576#32
  let v51 : BitVec 32 := Scalar.muli arg11 c576_i32_16
  let c0_i32_17 : BitVec 32 := 0#32
  let v52 : BitVec 32 := Scalar.addi v51 c0_i32_17
  let c0_i32_18 : BitVec 32 := 0#32
  let v53 : BitVec 32 := Scalar.addi v52 c0_i32_18
  let v54 : Index := Scalar.indexCast v53
  ![v54.toNat]

def k0_chk5 (v57 : IVec S16 32) : Prop :=
  (∀ a x, ((![v57] : Fin 1 → IVec S16 32) a x).toNat < S24576.size a)
theorem k0_idx5_inb : ∀ (v57 : IVec S16 32) (k0_hw5 : k0_chk5 v57), ∀ a x, ((![v57] : Fin 1 → IVec S16 32) a x).toNat < S24576.size a := fun v57 k0_hw5 => k0_hw5
def k0_off6 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_19 : BitVec 32 := 576#32
  let v59 : BitVec 32 := Scalar.muli arg11 c576_i32_19
  let c0_i32_20 : BitVec 32 := 0#32
  let v60 : BitVec 32 := Scalar.addi v59 c0_i32_20
  let c16_i32_21 : BitVec 32 := 16#32
  let v61 : BitVec 32 := Scalar.addi v60 c16_i32_21
  let v62 : Index := Scalar.indexCast v61
  ![v62.toNat]

def k0_chk6 (v65 : IVec S16 32) : Prop :=
  (∀ a x, ((![v65] : Fin 1 → IVec S16 32) a x).toNat < S24576.size a)
theorem k0_idx6_inb : ∀ (v65 : IVec S16 32) (k0_hw6 : k0_chk6 v65), ∀ a x, ((![v65] : Fin 1 → IVec S16 32) a x).toNat < S24576.size a := fun v65 k0_hw6 => k0_hw6
def k0_off7 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_22 : BitVec 32 := 576#32
  let v67 : BitVec 32 := Scalar.muli arg11 c576_i32_22
  let c0_i32_23 : BitVec 32 := 0#32
  let v68 : BitVec 32 := Scalar.addi v67 c0_i32_23
  let c32_i32_24 : BitVec 32 := 32#32
  let v69 : BitVec 32 := Scalar.addi v68 c32_i32_24
  let v70 : Index := Scalar.indexCast v69
  ![v70.toNat]

def k0_chk7 (v73 : IVec S16 32) : Prop :=
  (∀ a x, ((![v73] : Fin 1 → IVec S16 32) a x).toNat < S24576.size a)
theorem k0_idx7_inb : ∀ (v73 : IVec S16 32) (k0_hw7 : k0_chk7 v73), ∀ a x, ((![v73] : Fin 1 → IVec S16 32) a x).toNat < S24576.size a := fun v73 k0_hw7 => k0_hw7
def k0_off8 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_25 : BitVec 32 := 576#32
  let v75 : BitVec 32 := Scalar.muli arg11 c576_i32_25
  let c0_i32_26 : BitVec 32 := 0#32
  let v76 : BitVec 32 := Scalar.addi v75 c0_i32_26
  let c48_i32 : BitVec 32 := 48#32
  let v77 : BitVec 32 := Scalar.addi v76 c48_i32
  let v78 : Index := Scalar.indexCast v77
  ![v78.toNat]

def k0_chk8 (v81 : IVec S16 32) : Prop :=
  (∀ a x, ((![v81] : Fin 1 → IVec S16 32) a x).toNat < S24576.size a)
theorem k0_idx8_inb : ∀ (v81 : IVec S16 32) (k0_hw8 : k0_chk8 v81), ∀ a x, ((![v81] : Fin 1 → IVec S16 32) a x).toNat < S24576.size a := fun v81 k0_hw8 => k0_hw8
def k0_off9 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_27 : BitVec 32 := 576#32
  let v83 : BitVec 32 := Scalar.muli arg11 c576_i32_27
  let c0_i32_28 : BitVec 32 := 0#32
  let v84 : BitVec 32 := Scalar.addi v83 c0_i32_28
  let c64_i32 : BitVec 32 := 64#32
  let v85 : BitVec 32 := Scalar.addi v84 c64_i32
  let v86 : Index := Scalar.indexCast v85
  ![v86.toNat]

def k0_chk9 (v89 : IVec S16 32) : Prop :=
  (∀ a x, ((![v89] : Fin 1 → IVec S16 32) a x).toNat < S24576.size a)
theorem k0_idx9_inb : ∀ (v89 : IVec S16 32) (k0_hw9 : k0_chk9 v89), ∀ a x, ((![v89] : Fin 1 → IVec S16 32) a x).toNat < S24576.size a := fun v89 k0_hw9 => k0_hw9
def k0_off10 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_29 : BitVec 32 := 576#32
  let v91 : BitVec 32 := Scalar.muli arg11 c576_i32_29
  let c0_i32_30 : BitVec 32 := 0#32
  let v92 : BitVec 32 := Scalar.addi v91 c0_i32_30
  let c80_i32 : BitVec 32 := 80#32
  let v93 : BitVec 32 := Scalar.addi v92 c80_i32
  let v94 : Index := Scalar.indexCast v93
  ![v94.toNat]

def k0_chk10 (v97 : IVec S16 32) : Prop :=
  (∀ a x, ((![v97] : Fin 1 → IVec S16 32) a x).toNat < S24576.size a)
theorem k0_idx10_inb : ∀ (v97 : IVec S16 32) (k0_hw10 : k0_chk10 v97), ∀ a x, ((![v97] : Fin 1 → IVec S16 32) a x).toNat < S24576.size a := fun v97 k0_hw10 => k0_hw10
def k0_off11 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_31 : BitVec 32 := 576#32
  let v99 : BitVec 32 := Scalar.muli arg11 c576_i32_31
  let c0_i32_32 : BitVec 32 := 0#32
  let v100 : BitVec 32 := Scalar.addi v99 c0_i32_32
  let c96_i32 : BitVec 32 := 96#32
  let v101 : BitVec 32 := Scalar.addi v100 c96_i32
  let v102 : Index := Scalar.indexCast v101
  ![v102.toNat]

def k0_chk11 (v105 : IVec S16 32) : Prop :=
  (∀ a x, ((![v105] : Fin 1 → IVec S16 32) a x).toNat < S24576.size a)
theorem k0_idx11_inb : ∀ (v105 : IVec S16 32) (k0_hw11 : k0_chk11 v105), ∀ a x, ((![v105] : Fin 1 → IVec S16 32) a x).toNat < S24576.size a := fun v105 k0_hw11 => k0_hw11
def k0_off12 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_33 : BitVec 32 := 576#32
  let v107 : BitVec 32 := Scalar.muli arg11 c576_i32_33
  let c0_i32_34 : BitVec 32 := 0#32
  let v108 : BitVec 32 := Scalar.addi v107 c0_i32_34
  let c112_i32 : BitVec 32 := 112#32
  let v109 : BitVec 32 := Scalar.addi v108 c112_i32
  let v110 : Index := Scalar.indexCast v109
  ![v110.toNat]

def k0_chk12 (v113 : IVec S16 32) : Prop :=
  (∀ a x, ((![v113] : Fin 1 → IVec S16 32) a x).toNat < S24576.size a)
theorem k0_idx12_inb : ∀ (v113 : IVec S16 32) (k0_hw12 : k0_chk12 v113), ∀ a x, ((![v113] : Fin 1 → IVec S16 32) a x).toNat < S24576.size a := fun v113 k0_hw12 => k0_hw12
def k0_off13 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_35 : BitVec 32 := 576#32
  let v115 : BitVec 32 := Scalar.muli arg11 c576_i32_35
  let c0_i32_36 : BitVec 32 := 0#32
  let v116 : BitVec 32 := Scalar.addi v115 c0_i32_36
  let c128_i32 : BitVec 32 := 128#32
  let v117 : BitVec 32 := Scalar.addi v116 c128_i32
  let v118 : Index := Scalar.indexCast v117
  ![v118.toNat]

def k0_chk13 (v122 : IVec S16 32) : Prop :=
  (∀ a x, ((![v122] : Fin 1 → IVec S16 32) a x).toNat < S24576.size a)
theorem k0_idx13_inb : ∀ (v122 : IVec S16 32) (k0_hw13 : k0_chk13 v122), ∀ a x, ((![v122] : Fin 1 → IVec S16 32) a x).toNat < S24576.size a := fun v122 k0_hw13 => k0_hw13
def k0_off14 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_38 : BitVec 32 := 192#32
  let v124 : BitVec 32 := Scalar.muli arg11 c192_i32_38
  let c48_i32_39 : BitVec 32 := 48#32
  let v125 : BitVec 32 := Scalar.addi v124 c48_i32_39
  let c0_i32_40 : BitVec 32 := 0#32
  let v126 : BitVec 32 := Scalar.addi v125 c0_i32_40
  let v127 : Index := Scalar.indexCast v126
  ![v127.toNat]

def k0_chk14 (v130 : IVec S16 32) : Prop :=
  (∀ a x, ((![v130] : Fin 1 → IVec S16 32) a x).toNat < S24576.size a)
theorem k0_idx14_inb : ∀ (v130 : IVec S16 32) (k0_hw14 : k0_chk14 v130), ∀ a x, ((![v130] : Fin 1 → IVec S16 32) a x).toNat < S24576.size a := fun v130 k0_hw14 => k0_hw14
def k0_off15 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_41 : BitVec 32 := 192#32
  let v132 : BitVec 32 := Scalar.muli arg11 c192_i32_41
  let c48_i32_42 : BitVec 32 := 48#32
  let v133 : BitVec 32 := Scalar.addi v132 c48_i32_42
  let c16_i32_43 : BitVec 32 := 16#32
  let v134 : BitVec 32 := Scalar.addi v133 c16_i32_43
  let v135 : Index := Scalar.indexCast v134
  ![v135.toNat]

def k0_chk15 (v138 : IVec S16 32) : Prop :=
  (∀ a x, ((![v138] : Fin 1 → IVec S16 32) a x).toNat < S24576.size a)
theorem k0_idx15_inb : ∀ (v138 : IVec S16 32) (k0_hw15 : k0_chk15 v138), ∀ a x, ((![v138] : Fin 1 → IVec S16 32) a x).toNat < S24576.size a := fun v138 k0_hw15 => k0_hw15
def k0_off16 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_44 : BitVec 32 := 192#32
  let v140 : BitVec 32 := Scalar.muli arg11 c192_i32_44
  let c48_i32_45 : BitVec 32 := 48#32
  let v141 : BitVec 32 := Scalar.addi v140 c48_i32_45
  let c32_i32_46 : BitVec 32 := 32#32
  let v142 : BitVec 32 := Scalar.addi v141 c32_i32_46
  let v143 : Index := Scalar.indexCast v142
  ![v143.toNat]

def k0_chk16 (v146 : IVec S16 32) : Prop :=
  (∀ a x, ((![v146] : Fin 1 → IVec S16 32) a x).toNat < S24576.size a)
theorem k0_idx16_inb : ∀ (v146 : IVec S16 32) (k0_hw16 : k0_chk16 v146), ∀ a x, ((![v146] : Fin 1 → IVec S16 32) a x).toNat < S24576.size a := fun v146 k0_hw16 => k0_hw16
def k0_off17 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_47 : BitVec 32 := 576#32
  let v148 : BitVec 32 := Scalar.muli arg11 c576_i32_47
  let c144_i32 : BitVec 32 := 144#32
  let v149 : BitVec 32 := Scalar.addi v148 c144_i32
  let c0_i32_48 : BitVec 32 := 0#32
  let v150 : BitVec 32 := Scalar.addi v149 c0_i32_48
  let v151 : Index := Scalar.indexCast v150
  ![v151.toNat]

def k0_chk17 (v154 : IVec S16 32) : Prop :=
  (∀ a x, ((![v154] : Fin 1 → IVec S16 32) a x).toNat < S24576.size a)
theorem k0_idx17_inb : ∀ (v154 : IVec S16 32) (k0_hw17 : k0_chk17 v154), ∀ a x, ((![v154] : Fin 1 → IVec S16 32) a x).toNat < S24576.size a := fun v154 k0_hw17 => k0_hw17
def k0_off18 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_49 : BitVec 32 := 576#32
  let v156 : BitVec 32 := Scalar.muli arg11 c576_i32_49
  let c144_i32_50 : BitVec 32 := 144#32
  let v157 : BitVec 32 := Scalar.addi v156 c144_i32_50
  let c16_i32_51 : BitVec 32 := 16#32
  let v158 : BitVec 32 := Scalar.addi v157 c16_i32_51
  let v159 : Index := Scalar.indexCast v158
  ![v159.toNat]

def k0_chk18 (v162 : IVec S16 32) : Prop :=
  (∀ a x, ((![v162] : Fin 1 → IVec S16 32) a x).toNat < S24576.size a)
theorem k0_idx18_inb : ∀ (v162 : IVec S16 32) (k0_hw18 : k0_chk18 v162), ∀ a x, ((![v162] : Fin 1 → IVec S16 32) a x).toNat < S24576.size a := fun v162 k0_hw18 => k0_hw18
def k0_off19 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_52 : BitVec 32 := 576#32
  let v164 : BitVec 32 := Scalar.muli arg11 c576_i32_52
  let c144_i32_53 : BitVec 32 := 144#32
  let v165 : BitVec 32 := Scalar.addi v164 c144_i32_53
  let c32_i32_54 : BitVec 32 := 32#32
  let v166 : BitVec 32 := Scalar.addi v165 c32_i32_54
  let v167 : Index := Scalar.indexCast v166
  ![v167.toNat]

def k0_chk19 (v170 : IVec S16 32) : Prop :=
  (∀ a x, ((![v170] : Fin 1 → IVec S16 32) a x).toNat < S24576.size a)
theorem k0_idx19_inb : ∀ (v170 : IVec S16 32) (k0_hw19 : k0_chk19 v170), ∀ a x, ((![v170] : Fin 1 → IVec S16 32) a x).toNat < S24576.size a := fun v170 k0_hw19 => k0_hw19
def k0_off20 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_55 : BitVec 32 := 576#32
  let v172 : BitVec 32 := Scalar.muli arg11 c576_i32_55
  let c144_i32_56 : BitVec 32 := 144#32
  let v173 : BitVec 32 := Scalar.addi v172 c144_i32_56
  let c48_i32_57 : BitVec 32 := 48#32
  let v174 : BitVec 32 := Scalar.addi v173 c48_i32_57
  let v175 : Index := Scalar.indexCast v174
  ![v175.toNat]

def k0_chk20 (v178 : IVec S16 32) : Prop :=
  (∀ a x, ((![v178] : Fin 1 → IVec S16 32) a x).toNat < S24576.size a)
theorem k0_idx20_inb : ∀ (v178 : IVec S16 32) (k0_hw20 : k0_chk20 v178), ∀ a x, ((![v178] : Fin 1 → IVec S16 32) a x).toNat < S24576.size a := fun v178 k0_hw20 => k0_hw20
def k0_off21 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_58 : BitVec 32 := 576#32
  let v180 : BitVec 32 := Scalar.muli arg11 c576_i32_58
  let c144_i32_59 : BitVec 32 := 144#32
  let v181 : BitVec 32 := Scalar.addi v180 c144_i32_59
  let c64_i32_60 : BitVec 32 := 64#32
  let v182 : BitVec 32 := Scalar.addi v181 c64_i32_60
  let v183 : Index := Scalar.indexCast v182
  ![v183.toNat]

def k0_chk21 (v186 : IVec S16 32) : Prop :=
  (∀ a x, ((![v186] : Fin 1 → IVec S16 32) a x).toNat < S24576.size a)
theorem k0_idx21_inb : ∀ (v186 : IVec S16 32) (k0_hw21 : k0_chk21 v186), ∀ a x, ((![v186] : Fin 1 → IVec S16 32) a x).toNat < S24576.size a := fun v186 k0_hw21 => k0_hw21
def k0_off22 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_61 : BitVec 32 := 576#32
  let v188 : BitVec 32 := Scalar.muli arg11 c576_i32_61
  let c144_i32_62 : BitVec 32 := 144#32
  let v189 : BitVec 32 := Scalar.addi v188 c144_i32_62
  let c80_i32_63 : BitVec 32 := 80#32
  let v190 : BitVec 32 := Scalar.addi v189 c80_i32_63
  let v191 : Index := Scalar.indexCast v190
  ![v191.toNat]

def k0_chk22 (v194 : IVec S16 32) : Prop :=
  (∀ a x, ((![v194] : Fin 1 → IVec S16 32) a x).toNat < S24576.size a)
theorem k0_idx22_inb : ∀ (v194 : IVec S16 32) (k0_hw22 : k0_chk22 v194), ∀ a x, ((![v194] : Fin 1 → IVec S16 32) a x).toNat < S24576.size a := fun v194 k0_hw22 => k0_hw22
def k0_off23 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_64 : BitVec 32 := 576#32
  let v196 : BitVec 32 := Scalar.muli arg11 c576_i32_64
  let c144_i32_65 : BitVec 32 := 144#32
  let v197 : BitVec 32 := Scalar.addi v196 c144_i32_65
  let c96_i32_66 : BitVec 32 := 96#32
  let v198 : BitVec 32 := Scalar.addi v197 c96_i32_66
  let v199 : Index := Scalar.indexCast v198
  ![v199.toNat]

def k0_chk23 (v202 : IVec S16 32) : Prop :=
  (∀ a x, ((![v202] : Fin 1 → IVec S16 32) a x).toNat < S24576.size a)
theorem k0_idx23_inb : ∀ (v202 : IVec S16 32) (k0_hw23 : k0_chk23 v202), ∀ a x, ((![v202] : Fin 1 → IVec S16 32) a x).toNat < S24576.size a := fun v202 k0_hw23 => k0_hw23
def k0_off24 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_67 : BitVec 32 := 576#32
  let v204 : BitVec 32 := Scalar.muli arg11 c576_i32_67
  let c144_i32_68 : BitVec 32 := 144#32
  let v205 : BitVec 32 := Scalar.addi v204 c144_i32_68
  let c112_i32_69 : BitVec 32 := 112#32
  let v206 : BitVec 32 := Scalar.addi v205 c112_i32_69
  let v207 : Index := Scalar.indexCast v206
  ![v207.toNat]

def k0_chk24 (v210 : IVec S16 32) : Prop :=
  (∀ a x, ((![v210] : Fin 1 → IVec S16 32) a x).toNat < S24576.size a)
theorem k0_idx24_inb : ∀ (v210 : IVec S16 32) (k0_hw24 : k0_chk24 v210), ∀ a x, ((![v210] : Fin 1 → IVec S16 32) a x).toNat < S24576.size a := fun v210 k0_hw24 => k0_hw24
def k0_off25 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_70 : BitVec 32 := 576#32
  let v212 : BitVec 32 := Scalar.muli arg11 c576_i32_70
  let c144_i32_71 : BitVec 32 := 144#32
  let v213 : BitVec 32 := Scalar.addi v212 c144_i32_71
  let c128_i32_72 : BitVec 32 := 128#32
  let v214 : BitVec 32 := Scalar.addi v213 c128_i32_72
  let v215 : Index := Scalar.indexCast v214
  ![v215.toNat]

def k0_chk25 (v219 : IVec S16 32) : Prop :=
  (∀ a x, ((![v219] : Fin 1 → IVec S16 32) a x).toNat < S24576.size a)
theorem k0_idx25_inb : ∀ (v219 : IVec S16 32) (k0_hw25 : k0_chk25 v219), ∀ a x, ((![v219] : Fin 1 → IVec S16 32) a x).toNat < S24576.size a := fun v219 k0_hw25 => k0_hw25
def k0_off26 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_73 : BitVec 32 := 192#32
  let v221 : BitVec 32 := Scalar.muli arg11 c192_i32_73
  let c96_i32_74 : BitVec 32 := 96#32
  let v222 : BitVec 32 := Scalar.addi v221 c96_i32_74
  let c0_i32_75 : BitVec 32 := 0#32
  let v223 : BitVec 32 := Scalar.addi v222 c0_i32_75
  let v224 : Index := Scalar.indexCast v223
  ![v224.toNat]

def k0_chk26 (v227 : IVec S16 32) : Prop :=
  (∀ a x, ((![v227] : Fin 1 → IVec S16 32) a x).toNat < S24576.size a)
theorem k0_idx26_inb : ∀ (v227 : IVec S16 32) (k0_hw26 : k0_chk26 v227), ∀ a x, ((![v227] : Fin 1 → IVec S16 32) a x).toNat < S24576.size a := fun v227 k0_hw26 => k0_hw26
def k0_off27 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_76 : BitVec 32 := 192#32
  let v229 : BitVec 32 := Scalar.muli arg11 c192_i32_76
  let c96_i32_77 : BitVec 32 := 96#32
  let v230 : BitVec 32 := Scalar.addi v229 c96_i32_77
  let c16_i32_78 : BitVec 32 := 16#32
  let v231 : BitVec 32 := Scalar.addi v230 c16_i32_78
  let v232 : Index := Scalar.indexCast v231
  ![v232.toNat]

def k0_chk27 (v235 : IVec S16 32) : Prop :=
  (∀ a x, ((![v235] : Fin 1 → IVec S16 32) a x).toNat < S24576.size a)
theorem k0_idx27_inb : ∀ (v235 : IVec S16 32) (k0_hw27 : k0_chk27 v235), ∀ a x, ((![v235] : Fin 1 → IVec S16 32) a x).toNat < S24576.size a := fun v235 k0_hw27 => k0_hw27
def k0_off28 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_79 : BitVec 32 := 192#32
  let v237 : BitVec 32 := Scalar.muli arg11 c192_i32_79
  let c96_i32_80 : BitVec 32 := 96#32
  let v238 : BitVec 32 := Scalar.addi v237 c96_i32_80
  let c32_i32_81 : BitVec 32 := 32#32
  let v239 : BitVec 32 := Scalar.addi v238 c32_i32_81
  let v240 : Index := Scalar.indexCast v239
  ![v240.toNat]

def k0_chk28 (v243 : IVec S16 32) : Prop :=
  (∀ a x, ((![v243] : Fin 1 → IVec S16 32) a x).toNat < S24576.size a)
theorem k0_idx28_inb : ∀ (v243 : IVec S16 32) (k0_hw28 : k0_chk28 v243), ∀ a x, ((![v243] : Fin 1 → IVec S16 32) a x).toNat < S24576.size a := fun v243 k0_hw28 => k0_hw28
def k0_off29 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_82 : BitVec 32 := 576#32
  let v245 : BitVec 32 := Scalar.muli arg11 c576_i32_82
  let c288_i32 : BitVec 32 := 288#32
  let v246 : BitVec 32 := Scalar.addi v245 c288_i32
  let c0_i32_83 : BitVec 32 := 0#32
  let v247 : BitVec 32 := Scalar.addi v246 c0_i32_83
  let v248 : Index := Scalar.indexCast v247
  ![v248.toNat]

def k0_chk29 (v251 : IVec S16 32) : Prop :=
  (∀ a x, ((![v251] : Fin 1 → IVec S16 32) a x).toNat < S24576.size a)
theorem k0_idx29_inb : ∀ (v251 : IVec S16 32) (k0_hw29 : k0_chk29 v251), ∀ a x, ((![v251] : Fin 1 → IVec S16 32) a x).toNat < S24576.size a := fun v251 k0_hw29 => k0_hw29
def k0_off30 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_84 : BitVec 32 := 576#32
  let v253 : BitVec 32 := Scalar.muli arg11 c576_i32_84
  let c288_i32_85 : BitVec 32 := 288#32
  let v254 : BitVec 32 := Scalar.addi v253 c288_i32_85
  let c16_i32_86 : BitVec 32 := 16#32
  let v255 : BitVec 32 := Scalar.addi v254 c16_i32_86
  let v256 : Index := Scalar.indexCast v255
  ![v256.toNat]

def k0_chk30 (v259 : IVec S16 32) : Prop :=
  (∀ a x, ((![v259] : Fin 1 → IVec S16 32) a x).toNat < S24576.size a)
theorem k0_idx30_inb : ∀ (v259 : IVec S16 32) (k0_hw30 : k0_chk30 v259), ∀ a x, ((![v259] : Fin 1 → IVec S16 32) a x).toNat < S24576.size a := fun v259 k0_hw30 => k0_hw30
def k0_off31 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_87 : BitVec 32 := 576#32
  let v261 : BitVec 32 := Scalar.muli arg11 c576_i32_87
  let c288_i32_88 : BitVec 32 := 288#32
  let v262 : BitVec 32 := Scalar.addi v261 c288_i32_88
  let c32_i32_89 : BitVec 32 := 32#32
  let v263 : BitVec 32 := Scalar.addi v262 c32_i32_89
  let v264 : Index := Scalar.indexCast v263
  ![v264.toNat]

def k0_chk31 (v267 : IVec S16 32) : Prop :=
  (∀ a x, ((![v267] : Fin 1 → IVec S16 32) a x).toNat < S24576.size a)
theorem k0_idx31_inb : ∀ (v267 : IVec S16 32) (k0_hw31 : k0_chk31 v267), ∀ a x, ((![v267] : Fin 1 → IVec S16 32) a x).toNat < S24576.size a := fun v267 k0_hw31 => k0_hw31
def k0_off32 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_90 : BitVec 32 := 576#32
  let v269 : BitVec 32 := Scalar.muli arg11 c576_i32_90
  let c288_i32_91 : BitVec 32 := 288#32
  let v270 : BitVec 32 := Scalar.addi v269 c288_i32_91
  let c48_i32_92 : BitVec 32 := 48#32
  let v271 : BitVec 32 := Scalar.addi v270 c48_i32_92
  let v272 : Index := Scalar.indexCast v271
  ![v272.toNat]

def k0_chk32 (v275 : IVec S16 32) : Prop :=
  (∀ a x, ((![v275] : Fin 1 → IVec S16 32) a x).toNat < S24576.size a)
theorem k0_idx32_inb : ∀ (v275 : IVec S16 32) (k0_hw32 : k0_chk32 v275), ∀ a x, ((![v275] : Fin 1 → IVec S16 32) a x).toNat < S24576.size a := fun v275 k0_hw32 => k0_hw32
def k0_off33 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_93 : BitVec 32 := 576#32
  let v277 : BitVec 32 := Scalar.muli arg11 c576_i32_93
  let c288_i32_94 : BitVec 32 := 288#32
  let v278 : BitVec 32 := Scalar.addi v277 c288_i32_94
  let c64_i32_95 : BitVec 32 := 64#32
  let v279 : BitVec 32 := Scalar.addi v278 c64_i32_95
  let v280 : Index := Scalar.indexCast v279
  ![v280.toNat]

def k0_chk33 (v283 : IVec S16 32) : Prop :=
  (∀ a x, ((![v283] : Fin 1 → IVec S16 32) a x).toNat < S24576.size a)
theorem k0_idx33_inb : ∀ (v283 : IVec S16 32) (k0_hw33 : k0_chk33 v283), ∀ a x, ((![v283] : Fin 1 → IVec S16 32) a x).toNat < S24576.size a := fun v283 k0_hw33 => k0_hw33
def k0_off34 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_96 : BitVec 32 := 576#32
  let v285 : BitVec 32 := Scalar.muli arg11 c576_i32_96
  let c288_i32_97 : BitVec 32 := 288#32
  let v286 : BitVec 32 := Scalar.addi v285 c288_i32_97
  let c80_i32_98 : BitVec 32 := 80#32
  let v287 : BitVec 32 := Scalar.addi v286 c80_i32_98
  let v288 : Index := Scalar.indexCast v287
  ![v288.toNat]

def k0_chk34 (v291 : IVec S16 32) : Prop :=
  (∀ a x, ((![v291] : Fin 1 → IVec S16 32) a x).toNat < S24576.size a)
theorem k0_idx34_inb : ∀ (v291 : IVec S16 32) (k0_hw34 : k0_chk34 v291), ∀ a x, ((![v291] : Fin 1 → IVec S16 32) a x).toNat < S24576.size a := fun v291 k0_hw34 => k0_hw34
def k0_off35 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_99 : BitVec 32 := 576#32
  let v293 : BitVec 32 := Scalar.muli arg11 c576_i32_99
  let c288_i32_100 : BitVec 32 := 288#32
  let v294 : BitVec 32 := Scalar.addi v293 c288_i32_100
  let c96_i32_101 : BitVec 32 := 96#32
  let v295 : BitVec 32 := Scalar.addi v294 c96_i32_101
  let v296 : Index := Scalar.indexCast v295
  ![v296.toNat]

def k0_chk35 (v299 : IVec S16 32) : Prop :=
  (∀ a x, ((![v299] : Fin 1 → IVec S16 32) a x).toNat < S24576.size a)
theorem k0_idx35_inb : ∀ (v299 : IVec S16 32) (k0_hw35 : k0_chk35 v299), ∀ a x, ((![v299] : Fin 1 → IVec S16 32) a x).toNat < S24576.size a := fun v299 k0_hw35 => k0_hw35
def k0_off36 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_102 : BitVec 32 := 576#32
  let v301 : BitVec 32 := Scalar.muli arg11 c576_i32_102
  let c288_i32_103 : BitVec 32 := 288#32
  let v302 : BitVec 32 := Scalar.addi v301 c288_i32_103
  let c112_i32_104 : BitVec 32 := 112#32
  let v303 : BitVec 32 := Scalar.addi v302 c112_i32_104
  let v304 : Index := Scalar.indexCast v303
  ![v304.toNat]

def k0_chk36 (v307 : IVec S16 32) : Prop :=
  (∀ a x, ((![v307] : Fin 1 → IVec S16 32) a x).toNat < S24576.size a)
theorem k0_idx36_inb : ∀ (v307 : IVec S16 32) (k0_hw36 : k0_chk36 v307), ∀ a x, ((![v307] : Fin 1 → IVec S16 32) a x).toNat < S24576.size a := fun v307 k0_hw36 => k0_hw36
def k0_off37 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_105 : BitVec 32 := 576#32
  let v309 : BitVec 32 := Scalar.muli arg11 c576_i32_105
  let c288_i32_106 : BitVec 32 := 288#32
  let v310 : BitVec 32 := Scalar.addi v309 c288_i32_106
  let c128_i32_107 : BitVec 32 := 128#32
  let v311 : BitVec 32 := Scalar.addi v310 c128_i32_107
  let v312 : Index := Scalar.indexCast v311
  ![v312.toNat]

def k0_chk37 (v316 : IVec S16 32) : Prop :=
  (∀ a x, ((![v316] : Fin 1 → IVec S16 32) a x).toNat < S24576.size a)
theorem k0_idx37_inb : ∀ (v316 : IVec S16 32) (k0_hw37 : k0_chk37 v316), ∀ a x, ((![v316] : Fin 1 → IVec S16 32) a x).toNat < S24576.size a := fun v316 k0_hw37 => k0_hw37
def k0_off38 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_109 : BitVec 32 := 192#32
  let v318 : BitVec 32 := Scalar.muli arg11 c192_i32_109
  let c144_i32_110 : BitVec 32 := 144#32
  let v319 : BitVec 32 := Scalar.addi v318 c144_i32_110
  let c0_i32_111 : BitVec 32 := 0#32
  let v320 : BitVec 32 := Scalar.addi v319 c0_i32_111
  let v321 : Index := Scalar.indexCast v320
  ![v321.toNat]

def k0_chk38 (v324 : IVec S16 32) : Prop :=
  (∀ a x, ((![v324] : Fin 1 → IVec S16 32) a x).toNat < S24576.size a)
theorem k0_idx38_inb : ∀ (v324 : IVec S16 32) (k0_hw38 : k0_chk38 v324), ∀ a x, ((![v324] : Fin 1 → IVec S16 32) a x).toNat < S24576.size a := fun v324 k0_hw38 => k0_hw38
def k0_off39 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_112 : BitVec 32 := 192#32
  let v326 : BitVec 32 := Scalar.muli arg11 c192_i32_112
  let c144_i32_113 : BitVec 32 := 144#32
  let v327 : BitVec 32 := Scalar.addi v326 c144_i32_113
  let c16_i32_114 : BitVec 32 := 16#32
  let v328 : BitVec 32 := Scalar.addi v327 c16_i32_114
  let v329 : Index := Scalar.indexCast v328
  ![v329.toNat]

def k0_chk39 (v332 : IVec S16 32) : Prop :=
  (∀ a x, ((![v332] : Fin 1 → IVec S16 32) a x).toNat < S24576.size a)
theorem k0_idx39_inb : ∀ (v332 : IVec S16 32) (k0_hw39 : k0_chk39 v332), ∀ a x, ((![v332] : Fin 1 → IVec S16 32) a x).toNat < S24576.size a := fun v332 k0_hw39 => k0_hw39
def k0_off40 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c192_i32_115 : BitVec 32 := 192#32
  let v334 : BitVec 32 := Scalar.muli arg11 c192_i32_115
  let c144_i32_116 : BitVec 32 := 144#32
  let v335 : BitVec 32 := Scalar.addi v334 c144_i32_116
  let c32_i32_117 : BitVec 32 := 32#32
  let v336 : BitVec 32 := Scalar.addi v335 c32_i32_117
  let v337 : Index := Scalar.indexCast v336
  ![v337.toNat]

def k0_chk40 (v340 : IVec S16 32) : Prop :=
  (∀ a x, ((![v340] : Fin 1 → IVec S16 32) a x).toNat < S24576.size a)
theorem k0_idx40_inb : ∀ (v340 : IVec S16 32) (k0_hw40 : k0_chk40 v340), ∀ a x, ((![v340] : Fin 1 → IVec S16 32) a x).toNat < S24576.size a := fun v340 k0_hw40 => k0_hw40
def k0_off41 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_118 : BitVec 32 := 576#32
  let v342 : BitVec 32 := Scalar.muli arg11 c576_i32_118
  let c432_i32 : BitVec 32 := 432#32
  let v343 : BitVec 32 := Scalar.addi v342 c432_i32
  let c0_i32_119 : BitVec 32 := 0#32
  let v344 : BitVec 32 := Scalar.addi v343 c0_i32_119
  let v345 : Index := Scalar.indexCast v344
  ![v345.toNat]

def k0_chk41 (v348 : IVec S16 32) : Prop :=
  (∀ a x, ((![v348] : Fin 1 → IVec S16 32) a x).toNat < S24576.size a)
theorem k0_idx41_inb : ∀ (v348 : IVec S16 32) (k0_hw41 : k0_chk41 v348), ∀ a x, ((![v348] : Fin 1 → IVec S16 32) a x).toNat < S24576.size a := fun v348 k0_hw41 => k0_hw41
def k0_off42 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_120 : BitVec 32 := 576#32
  let v350 : BitVec 32 := Scalar.muli arg11 c576_i32_120
  let c432_i32_121 : BitVec 32 := 432#32
  let v351 : BitVec 32 := Scalar.addi v350 c432_i32_121
  let c16_i32_122 : BitVec 32 := 16#32
  let v352 : BitVec 32 := Scalar.addi v351 c16_i32_122
  let v353 : Index := Scalar.indexCast v352
  ![v353.toNat]

def k0_chk42 (v356 : IVec S16 32) : Prop :=
  (∀ a x, ((![v356] : Fin 1 → IVec S16 32) a x).toNat < S24576.size a)
theorem k0_idx42_inb : ∀ (v356 : IVec S16 32) (k0_hw42 : k0_chk42 v356), ∀ a x, ((![v356] : Fin 1 → IVec S16 32) a x).toNat < S24576.size a := fun v356 k0_hw42 => k0_hw42
def k0_off43 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_123 : BitVec 32 := 576#32
  let v358 : BitVec 32 := Scalar.muli arg11 c576_i32_123
  let c432_i32_124 : BitVec 32 := 432#32
  let v359 : BitVec 32 := Scalar.addi v358 c432_i32_124
  let c32_i32_125 : BitVec 32 := 32#32
  let v360 : BitVec 32 := Scalar.addi v359 c32_i32_125
  let v361 : Index := Scalar.indexCast v360
  ![v361.toNat]

def k0_chk43 (v364 : IVec S16 32) : Prop :=
  (∀ a x, ((![v364] : Fin 1 → IVec S16 32) a x).toNat < S24576.size a)
theorem k0_idx43_inb : ∀ (v364 : IVec S16 32) (k0_hw43 : k0_chk43 v364), ∀ a x, ((![v364] : Fin 1 → IVec S16 32) a x).toNat < S24576.size a := fun v364 k0_hw43 => k0_hw43
def k0_off44 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_126 : BitVec 32 := 576#32
  let v366 : BitVec 32 := Scalar.muli arg11 c576_i32_126
  let c432_i32_127 : BitVec 32 := 432#32
  let v367 : BitVec 32 := Scalar.addi v366 c432_i32_127
  let c48_i32_128 : BitVec 32 := 48#32
  let v368 : BitVec 32 := Scalar.addi v367 c48_i32_128
  let v369 : Index := Scalar.indexCast v368
  ![v369.toNat]

def k0_chk44 (v372 : IVec S16 32) : Prop :=
  (∀ a x, ((![v372] : Fin 1 → IVec S16 32) a x).toNat < S24576.size a)
theorem k0_idx44_inb : ∀ (v372 : IVec S16 32) (k0_hw44 : k0_chk44 v372), ∀ a x, ((![v372] : Fin 1 → IVec S16 32) a x).toNat < S24576.size a := fun v372 k0_hw44 => k0_hw44
def k0_off45 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_129 : BitVec 32 := 576#32
  let v374 : BitVec 32 := Scalar.muli arg11 c576_i32_129
  let c432_i32_130 : BitVec 32 := 432#32
  let v375 : BitVec 32 := Scalar.addi v374 c432_i32_130
  let c64_i32_131 : BitVec 32 := 64#32
  let v376 : BitVec 32 := Scalar.addi v375 c64_i32_131
  let v377 : Index := Scalar.indexCast v376
  ![v377.toNat]

def k0_chk45 (v380 : IVec S16 32) : Prop :=
  (∀ a x, ((![v380] : Fin 1 → IVec S16 32) a x).toNat < S24576.size a)
theorem k0_idx45_inb : ∀ (v380 : IVec S16 32) (k0_hw45 : k0_chk45 v380), ∀ a x, ((![v380] : Fin 1 → IVec S16 32) a x).toNat < S24576.size a := fun v380 k0_hw45 => k0_hw45
def k0_off46 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_132 : BitVec 32 := 576#32
  let v382 : BitVec 32 := Scalar.muli arg11 c576_i32_132
  let c432_i32_133 : BitVec 32 := 432#32
  let v383 : BitVec 32 := Scalar.addi v382 c432_i32_133
  let c80_i32_134 : BitVec 32 := 80#32
  let v384 : BitVec 32 := Scalar.addi v383 c80_i32_134
  let v385 : Index := Scalar.indexCast v384
  ![v385.toNat]

def k0_chk46 (v388 : IVec S16 32) : Prop :=
  (∀ a x, ((![v388] : Fin 1 → IVec S16 32) a x).toNat < S24576.size a)
theorem k0_idx46_inb : ∀ (v388 : IVec S16 32) (k0_hw46 : k0_chk46 v388), ∀ a x, ((![v388] : Fin 1 → IVec S16 32) a x).toNat < S24576.size a := fun v388 k0_hw46 => k0_hw46
def k0_off47 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_135 : BitVec 32 := 576#32
  let v390 : BitVec 32 := Scalar.muli arg11 c576_i32_135
  let c432_i32_136 : BitVec 32 := 432#32
  let v391 : BitVec 32 := Scalar.addi v390 c432_i32_136
  let c96_i32_137 : BitVec 32 := 96#32
  let v392 : BitVec 32 := Scalar.addi v391 c96_i32_137
  let v393 : Index := Scalar.indexCast v392
  ![v393.toNat]

def k0_chk47 (v396 : IVec S16 32) : Prop :=
  (∀ a x, ((![v396] : Fin 1 → IVec S16 32) a x).toNat < S24576.size a)
theorem k0_idx47_inb : ∀ (v396 : IVec S16 32) (k0_hw47 : k0_chk47 v396), ∀ a x, ((![v396] : Fin 1 → IVec S16 32) a x).toNat < S24576.size a := fun v396 k0_hw47 => k0_hw47
def k0_off48 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_138 : BitVec 32 := 576#32
  let v398 : BitVec 32 := Scalar.muli arg11 c576_i32_138
  let c432_i32_139 : BitVec 32 := 432#32
  let v399 : BitVec 32 := Scalar.addi v398 c432_i32_139
  let c112_i32_140 : BitVec 32 := 112#32
  let v400 : BitVec 32 := Scalar.addi v399 c112_i32_140
  let v401 : Index := Scalar.indexCast v400
  ![v401.toNat]

def k0_chk48 (v404 : IVec S16 32) : Prop :=
  (∀ a x, ((![v404] : Fin 1 → IVec S16 32) a x).toNat < S24576.size a)
theorem k0_idx48_inb : ∀ (v404 : IVec S16 32) (k0_hw48 : k0_chk48 v404), ∀ a x, ((![v404] : Fin 1 → IVec S16 32) a x).toNat < S24576.size a := fun v404 k0_hw48 => k0_hw48
def k0_off49 (k0_t2 : Fin k0_t2_loop.trips) : Fin 1 → Nat :=
  let c0_i32_1 : BitVec 32 := 0#32
  let c1_i32_3 : BitVec 32 := 1#32
  let arg11 : BitVec 32 := Scf.iv c0_i32_1 c1_i32_3 k0_t2
  let c576_i32_141 : BitVec 32 := 576#32
  let v406 : BitVec 32 := Scalar.muli arg11 c576_i32_141
  let c432_i32_142 : BitVec 32 := 432#32
  let v407 : BitVec 32 := Scalar.addi v406 c432_i32_142
  let c128_i32_143 : BitVec 32 := 128#32
  let v408 : BitVec 32 := Scalar.addi v407 c128_i32_143
  let v409 : Index := Scalar.indexCast v408
  ![v409.toNat]
def k0_off50 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg10 : BitVec 32 := Scf.iv c0_i32 c1_i32 k0_t1
  let c32_i32 : BitVec 32 := 32#32
  let v16 : BitVec 32 := Scalar.muli arg10 c32_i32
  let v17 : BitVec 32 := Scalar.addi v2 v16
  let c192_i32 : BitVec 32 := 192#32
  let v20 : BitVec 32 := Scalar.muli v17 c192_i32
  ![v20.toNat]
def k0_off51 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg10 : BitVec 32 := Scf.iv c0_i32 c1_i32 k0_t1
  let c32_i32 : BitVec 32 := 32#32
  let v16 : BitVec 32 := Scalar.muli arg10 c32_i32
  let v17 : BitVec 32 := Scalar.addi v2 v16
  let c576_i32 : BitVec 32 := 576#32
  let v21 : BitVec 32 := Scalar.muli v17 c576_i32
  ![v21.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256x3 : Shape := ⟨3, ![16384, 256, 3]⟩
abbrev S64 : Shape := ⟨1, ![64]⟩
abbrev S192 : Shape := ⟨1, ![192]⟩
abbrev S_ : Shape := ⟨0, ![]⟩
abbrev S64x1 : Shape := ⟨2, ![64, 1]⟩
abbrev S1 : Shape := ⟨1, ![1]⟩
abbrev S1x1 : Shape := ⟨2, ![1, 1]⟩
abbrev S16384x64x3 : Shape := ⟨3, ![16384, 64, 3]⟩
abbrev S192x1 : Shape := ⟨2, ![192, 1]⟩
abbrev S16384x192x3 : Shape := ⟨3, ![16384, 192, 3]⟩

abbrev nBuf : Space → Nat
  | .hbm => 49
  | .vmem => 0
  | .smem => 0
  | _ => 0

abbrev bufTy : (tb : Table) → Fin (tcTables nBuf tb) → BufTy
  | .hbm, ⟨0, _⟩ => ⟨S16384x256x3, .f32⟩
  | .hbm, ⟨1, _⟩ => ⟨S64, .i32⟩
  | .hbm, ⟨2, _⟩ => ⟨S192, .i32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S1, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S1x1, .i32⟩
  | .hbm, ⟨16, _⟩ => ⟨S64x1, .i32⟩
  | .hbm, ⟨17, _⟩ => ⟨S64x1, .i1⟩
  | .hbm, ⟨18, _⟩ => ⟨S64x1, .i1⟩
  | .hbm, ⟨19, _⟩ => ⟨S_, .i1⟩
  | .hbm, ⟨20, _⟩ => ⟨S64, .i1⟩
  | .hbm, ⟨21, _⟩ => ⟨S16384x64x3, .f32⟩
  | .hbm, ⟨22, _⟩ => ⟨S16384x64x3, .i1⟩
  | .hbm, ⟨23, _⟩ => ⟨S_, .f32⟩
  | .hbm, ⟨24, _⟩ => ⟨S16384x64x3, .f32⟩
  | .hbm, ⟨25, _⟩ => ⟨S16384x64x3, .f32⟩
  | .hbm, ⟨26, _⟩ => ⟨S_, .i32⟩
  | .hbm, ⟨27, _⟩ => ⟨S192, .i32⟩
  | .hbm, ⟨28, _⟩ => ⟨S192, .i1⟩
  | .hbm, ⟨29, _⟩ => ⟨S_, .i32⟩
  | .hbm, ⟨30, _⟩ => ⟨S192, .i32⟩
  | .hbm, ⟨31, _⟩ => ⟨S192, .i32⟩
  | .hbm, ⟨32, _⟩ => ⟨S192, .i32⟩
  | .hbm, ⟨33, _⟩ => ⟨S192x1, .i32⟩
  | .hbm, ⟨34, _⟩ => ⟨S1, .i32⟩
  | .hbm, ⟨35, _⟩ => ⟨S_, .i32⟩
  | .hbm, ⟨36, _⟩ => ⟨S192x1, .i32⟩
  | .hbm, ⟨37, _⟩ => ⟨S192x1, .i1⟩
  | .hbm, ⟨38, _⟩ => ⟨S1x1, .i32⟩
  | .hbm, ⟨39, _⟩ => ⟨S192x1, .i32⟩
  | .hbm, ⟨40, _⟩ => ⟨S192x1, .i1⟩
  | .hbm, ⟨41, _⟩ => ⟨S192x1, .i1⟩
  | .hbm, ⟨42, _⟩ => ⟨S_, .i1⟩
  | .hbm, ⟨43, _⟩ => ⟨S192, .i1⟩
  | .hbm, ⟨44, _⟩ => ⟨S16384x192x3, .f32⟩
  | .hbm, ⟨45, _⟩ => ⟨S16384x192x3, .i1⟩
  | .hbm, ⟨46, _⟩ => ⟨S_, .f32⟩
  | .hbm, ⟨47, _⟩ => ⟨S16384x192x3, .f32⟩
  | .hbm, ⟨48, _⟩ => ⟨S16384x192x3, .f32⟩
  | _, _ => ⟨S16384x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]
-- ==== Proof.Pattern.lean ====
/-
  The index mathematics of the kernel, with no program in sight: where element `j` of each flat result comes from in the
  flat input, and the two facts a sixteen-lane step needs — a lane's index word, and one block more of a prefix filled.
-/
module

public import Idealize.ShloMosaic.Lib.Exec
public import Idealize.ShloMosaic.Lib.WritesUnit

@[expose] public section

noncomputable section

namespace Cert.Proof

open Idealize.ShloMosaic

/-- Element `j` of the flat first result is element `srcCg j` of the flat input: every fourth row of three. -/
def srcCg (j : ℕ) : ℕ := 12 * (j / 3) + j % 3
/-- Element `j` of the flat second result is element `srcNcg j` of the flat input: the other three rows of each four. -/
def srcNcg (j : ℕ) : ℕ := 12 * (j / 9) + 3 + j % 9

/-- Sixteen lanes of words naming where elements `k … k + 15` of a result come from. -/
def Names (src : ℕ → ℕ) (k : ℕ) (v : IVec ⟨1, ![16]⟩ 32) : Prop := ∀ x, (v x).toNat = src (k + (x 0).val)

/-- The first `n` elements of the flat array `f` are those of `g` that `src` names. -/
def Filled {V : Type} {a b : ℕ} (src : ℕ → ℕ) (n : ℕ) (f : (⟨1, ![a]⟩ : Shape).Idx → V) (g : (⟨1, ![b]⟩ : Shape).Idx → V) : Prop :=
  ∀ j k, (j 0).val < n → (k 0).val = src (j 0).val → f j = g k

theorem Filled.zero {V : Type} {a b : ℕ} (src : ℕ → ℕ) (f : (⟨1, ![a]⟩ : Shape).Idx → V) (g : (⟨1, ![b]⟩ : Shape).Idx → V) :
    Filled src 0 f g := fun _ _ h => absurd h (Nat.not_lt_zero _)

variable {sig : RefSig} {κ : Kind} {sp : Space} {e : EltTy} {Val : EltTy → Type}

/-- A block of sixteen, gathered from `g` at the words naming it and stored behind the filled prefix, fills sixteen more. -/
theorem Filled.store {F : FTy → Type} {a b : ℕ} {src : ℕ → ℕ} {n : ℕ} {m : View sig κ sp ⟨1, ![a]⟩ e} {f : m.ty.Contents (Elt F)}
    {g : (⟨1, ![b]⟩ : Shape).Idx → Elt F e} {idx : IVec ⟨1, ![16]⟩ 32} {h : ∀ i x, ((![idx] : Fin 1 → IVec ⟨1, ![16]⟩ 32) i x).toNat < (⟨1, ![b]⟩ : Shape).size i}
    {off : Fin 1 → ℕ} {inb : ∀ i, off i + (![16] : Fin 1 → ℕ) i ≤ (⟨1, ![a]⟩ : Shape).size i}
    (hoff : off = ![n]) (hidx : Names src n idx) (hf : Filled src n (m.read (Elt F) f) g) :
    Filled src (n + 16) (m.read (Elt F) ((m.slice (Rect.unit (s := ⟨1, ![a]⟩) off ![16] inb)).write (Elt F) f (loadIdx (F := F) (s := ⟨1, ![b]⟩) g ![idx] h) Finset.univ)) g := by
  intro j k hj hk
  have hw := View.read_writes_cons_unit m f (size := ![16]) inb (loadIdx (F := F) (s := ⟨1, ![b]⟩) g ![idx] h) [] j hoff
  refine (hw.trans ?_)
  split
  · rename_i hin
    have h0 := hin 0
    simp only [Matrix.cons_val_zero] at h0
    unfold loadIdx
    congr 1
    funext i
    obtain rfl : i = 0 := Subsingleton.elim _ _
    refine Fin.ext ?_
    show (idx _).toNat = _
    rw [hidx, hk]
    congr 1
    have := Rect.unitLocal_val (s := ⟨1, ![a]⟩) (off := ![n]) (size := ![16]) j hin 0
    simp only [Matrix.cons_val_zero] at this
    omega
  · rename_i hout
    refine hf j k (Nat.lt_of_not_le fun hn => hout fun i => ?_) hk
    obtain rfl : i = 0 := Subsingleton.elim _ _
    simp only [Matrix.cons_val_zero]
    omega

/-- Words that name a block, moved up by a word `w`, name the block `c` elements on where `src` moves by `w` over `c`. -/
theorem Names.add {src : ℕ → ℕ} {k n : ℕ} {v : IVec ⟨1, ![16]⟩ 32} {w : BitVec 32} (hv : Names src k v)
    (h : ∀ x < 16, src (k + x) + w.toNat = src (n + x)) (hlt : ∀ x < 16, src (n + x) < 2 ^ 32) :
    Names src n (addi v (broadcast ⟨1, ![16]⟩ w)) := by
  intro x
  have hx : (x 0).val < 16 := (x 0).isLt
  show (v x + w).toNat = _
  rw [BitVec.toNat_add, hv x, h _ hx, Nat.mod_eq_of_lt (hlt _ hx)]

/-- The word of row `r` and block group `e` of a chunk. -/
theorem word_toNat (r : ℕ) (hr : r < 32) (e : ℕ) (he : e < 768) :
    (Scalar.addi (Scalar.muli (Scf.iv 0#32 1#32 r) 768#32) (BitVec.ofNat 32 e)).toNat = 768 * r + e := by
  have : Scf.iv 0#32 1#32 r = BitVec.ofNat 32 r := by
    unfold Scf.iv; simp
  rw [this]
  show ((BitVec.ofNat 32 r * 768#32) + BitVec.ofNat 32 e).toNat = _
  simp only [BitVec.toNat_add, BitVec.toNat_mul, BitVec.toNat_ofNat]
  omega

/-- Block `n` of a chunk's first result, its sources from the pattern block `k` moved by `768 r + e`. -/
theorem names_cg {r k n e : ℕ} (hr : r < 32) (he : e < 768) {v : IVec ⟨1, ![16]⟩ 32} (hv : Names srcCg k v)
    (hk : k % 16 = 0 ∧ k < 48) (hn : 4 * n = 768 * r + e + 4 * k) (h3 : e % 192 = 0) :
    Names srcCg n (addi v (broadcast ⟨1, ![16]⟩ (Scalar.addi (Scalar.muli (Scf.iv 0#32 1#32 r) 768#32) (BitVec.ofNat 32 e)))) := by
  refine hv.add (fun x hx => ?_) (fun x hx => ?_)
  · rw [word_toNat r hr e he]; unfold srcCg; omega
  · unfold srcCg; omega

/-- Block `n` of a chunk's second result, its sources from the pattern block `k` moved by `768 r + e`. -/
theorem names_ncg {r k n e : ℕ} (hr : r < 32) (he : e < 768) {v : IVec ⟨1, ![16]⟩ 32} (hv : Names srcNcg k v)
    (hk : k % 16 = 0 ∧ k < 144) (hn : 4 * n = 3 * (768 * r + e) + 4 * k) (h3 : e % 192 = 0) :
    Names srcNcg n (addi v (broadcast ⟨1, ![16]⟩ (Scalar.addi (Scalar.muli (Scf.iv 0#32 1#32 r) 768#32) (BitVec.ofNat 32 e)))) := by
  refine hv.add (fun x hx => ?_) (fun x hx => ?_)
  · rw [word_toNat r hr e he]; unfold srcNcg; omega
  · unfold srcNcg; omega

/-- The words of a block of the first result lie inside the fetched chunk. -/
theorem inb_cg {r k e : ℕ} (hr : r < 32) {v : IVec ⟨1, ![16]⟩ 32} (hv : Names srcCg k v) (hk : k ≤ 32) (he : e ≤ 576) :
    ∀ i x, ((![addi v (broadcast ⟨1, ![16]⟩ (Scalar.addi (Scalar.muli (Scf.iv 0#32 1#32 r) 768#32) (BitVec.ofNat 32 e)))] : Fin 1 → IVec ⟨1, ![16]⟩ 32) i x).toNat
      < (⟨1, ![24576]⟩ : Shape).size i := by
  intro i x
  obtain rfl : i = 0 := Subsingleton.elim _ _
  have hx : (x 0).val < 16 := (x 0).isLt
  show (v x + Scalar.addi (Scalar.muli (Scf.iv 0#32 1#32 r) 768#32) (BitVec.ofNat 32 e)).toNat < 24576
  have := hv x
  unfold srcCg at this
  have hq : (k + (x 0).val) / 3 ≤ 15 := by omega
  have hv' : (v x).toNat < 192 := by omega
  rw [BitVec.toNat_add, word_toNat r hr e (by omega), Nat.mod_eq_of_lt (by omega)]
  omega

/-- The words of a block of the second result lie inside the fetched chunk. -/
theorem inb_ncg {r k e : ℕ} (hr : r < 32) {v : IVec ⟨1, ![16]⟩ 32} (hv : Names srcNcg k v) (hk : k ≤ 128) (he : e ≤ 576) :
    ∀ i x, ((![addi v (broadcast ⟨1, ![16]⟩ (Scalar.addi (Scalar.muli (Scf.iv 0#32 1#32 r) 768#32) (BitVec.ofNat 32 e)))] : Fin 1 → IVec ⟨1, ![16]⟩ 32) i x).toNat
      < (⟨1, ![24576]⟩ : Shape).size i := by
  intro i x
  obtain rfl : i = 0 := Subsingleton.elim _ _
  have hx : (x 0).val < 16 := (x 0).isLt
  show (v x + Scalar.addi (Scalar.muli (Scf.iv 0#32 1#32 r) 768#32) (BitVec.ofNat 32 e)).toNat < 24576
  have := hv x
  unfold srcNcg at this
  have hq : (k + (x 0).val) / 9 ≤ 15 := by omega
  have hv' : (v x).toNat < 192 := by omega
  rw [BitVec.toNat_add, word_toNat r hr e (by omega), Nat.mod_eq_of_lt (by omega)]
  omega

end Cert.Proof

end
-- ==== Proof.Chunk.lean ====
/-
  A result filled chunk by chunk: a tile fetches a run of the flat input, fills a run of each result from it, and writes
  that run behind those it wrote before. Stated of arrays and views alone.
-/
module

public import proofs.«01_k».proof.Proof.Pattern

@[expose] public section

noncomputable section

namespace Cert.Proof

open Idealize.ShloMosaic

/-- The `n` elements of `f` from `lo` on are those of `g` that `src` names. -/
def FilledIn {V : Type} {a b : ℕ} (src : ℕ → ℕ) (lo n : ℕ) (f : (⟨1, ![a]⟩ : Shape).Idx → V) (g : (⟨1, ![b]⟩ : Shape).Idx → V) : Prop :=
  ∀ j k, lo ≤ (j 0).val → (j 0).val < lo + n → (k 0).val = src (j 0).val → f j = g k

theorem FilledIn.zero {V : Type} {a b : ℕ} (src : ℕ → ℕ) (lo : ℕ) (f : (⟨1, ![a]⟩ : Shape).Idx → V) (g : (⟨1, ![b]⟩ : Shape).Idx → V) :
    FilledIn src lo 0 f g := fun _ _ h h' => absurd h' (by omega)

variable {sig : RefSig} {κ : Kind} {sp : Space} {e : EltTy} {Val : EltTy → Type}

/-- What a slice at one offset reads: the array's elements from the offset on. -/
theorem read_run {b len o : ℕ} {m : View sig κ sp ⟨1, ![b]⟩ e} {X : m.ty.Contents Val} {off : Fin 1 → ℕ}
    {inb : ∀ i, off i + (![len] : Fin 1 → ℕ) i ≤ (⟨1, ![b]⟩ : Shape).size i} (hoff : off = ![o])
    (j : (⟨1, ![len]⟩ : Shape).Idx) (k : (⟨1, ![b]⟩ : Shape).Idx) (hk : (k 0).val = o + (j 0).val) :
    (m.slice (Rect.unit (s := ⟨1, ![b]⟩) off ![len] inb)).read Val X j = m.read Val X k := by
  subst hoff
  have : (Rect.unit (s := ⟨1, ![b]⟩) ![o] ![len] inb).emb j = k := by
    funext i
    obtain rfl : i = 0 := Subsingleton.elim _ _
    refine Fin.ext ?_
    rw [hk]
    show o + 1 * (j 0).val = _
    omega
  rw [← this]; rfl

/-- A run filled from the fetched chunk `g` and written behind those already written lengthens what is filled from `X`. -/
theorem FilledIn.write {a b c len lo n o : ℕ} {src : ℕ → ℕ} {m : View sig κ sp ⟨1, ![a]⟩ e} {f : m.ty.Contents Val}
    {X : (⟨1, ![b]⟩ : Shape).Idx → Val e} {g : (⟨1, ![c]⟩ : Shape).Idx → Val e} {w : (⟨1, ![len]⟩ : Shape).Idx → Val e}
    {off : Fin 1 → ℕ} {inb : ∀ i, off i + (![len] : Fin 1 → ℕ) i ≤ (⟨1, ![a]⟩ : Shape).size i}
    (hf : FilledIn src lo n (m.read Val f) X) (hw : Filled src len w g) (hg : ∀ j k, (k 0).val = o + (j 0).val → g j = X k)
    (hoff : off = ![lo + n]) (hsrc : ∀ j < len, src (lo + n + j) = o + src j) (hin : ∀ j < len, src j < c) :
    FilledIn src lo (n + len) (m.read Val ((m.slice (Rect.unit (s := ⟨1, ![a]⟩) off ![len] inb)).write Val f w Finset.univ)) X := by
  intro j k hlo hj hk
  refine (View.read_writes_cons_unit m f (size := ![len]) inb w [] j hoff).trans ?_
  split
  · rename_i hin'
    have h0 := hin' 0
    have hl := Rect.unitLocal_val (s := ⟨1, ![a]⟩) (off := ![lo + n]) (size := ![len]) j hin' 0
    simp only [Matrix.cons_val_zero] at h0 hl
    have hlt : (Rect.unitLocal (s := ⟨1, ![a]⟩) (off := ![lo + n]) (size := ![len]) j hin' 0).val < len := by omega
    have hs := hin _ hlt
    refine (hw _ (fun _ => ⟨src _, by obtain rfl : ‹Fin 1› = 0 := Subsingleton.elim _ _; exact hs⟩) hlt rfl).trans (hg _ k ?_)
    rw [hk]
    show _ = o + src _
    rw [← hsrc _ hlt]
    congr 1
    omega
  · rename_i hout
    refine hf j k hlo (Nat.lt_of_not_le fun hn => hout fun i => ?_) hk
    obtain rfl : i = 0 := Subsingleton.elim _ _
    simp only [Matrix.cons_val_zero]
    omega

/-- The array whose elements are those of `X` that `src` names. -/
def pick {V : Type} {b : ℕ} (hb : 0 < b) (a : ℕ) (src : ℕ → ℕ) (X : (⟨1, ![b]⟩ : Shape).Idx → V) : (⟨1, ![a]⟩ : Shape).Idx → V :=
  fun j => X fun i => ⟨src (j 0).val % b, by obtain rfl : i = 0 := Subsingleton.elim _ _; exact Nat.mod_lt _ hb⟩

theorem FilledIn.eq_pick {V : Type} {a b lo n : ℕ} (hb : 0 < b) {src : ℕ → ℕ} {f : (⟨1, ![a]⟩ : Shape).Idx → V} {X : (⟨1, ![b]⟩ : Shape).Idx → V}
    (h : FilledIn src lo n f X) (hlt : ∀ j < a, src j < b) (j : (⟨1, ![a]⟩ : Shape).Idx) (h0 : lo ≤ (j 0).val) (h1 : (j 0).val < lo + n) :
    f j = pick hb a src X j :=
  h j _ h0 h1 (Nat.mod_eq_of_lt (hlt _ (j 0).isLt))

/-- Sixteen pattern words loaded from the scratch holding the table `T`, whose words from `k - b` on name a result's sources. -/
theorem Names.load {n : ℕ} {F : FTy → Type} {m : View sig κ sp ⟨1, ![n]⟩ .i32} {f : m.ty.Contents (Elt F)} {src : ℕ → ℕ} {o b k : ℕ} {off : Fin 1 → ℕ}
    {inb : ∀ i, off i + (![16] : Fin 1 → ℕ) i ≤ (⟨1, ![n]⟩ : Shape).size i} (hoff : off = ![o]) (hn : o + 16 ≤ n) (ho : o = b + k)
    (hT : ∀ j : (⟨1, ![n]⟩ : Shape).Idx, b + k ≤ (j 0).val → (j 0).val < b + k + 16 → ((m.read (Elt F) f j : BitVec 32)).toNat = src ((j 0).val - b)) :
    Names src k (m.readAt (Elt F) (Rect.unit (s := ⟨1, ![n]⟩) off ![16] inb).toLoadRect f) := by
  intro x
  have hx : (x 0).val < 16 := (x 0).isLt
  have h := read_run (m := m) (X := f) (inb := inb) hoff x (fun i => ⟨o + (x 0).val, by obtain rfl : i = 0 := Subsingleton.elim _ _; show _ < n; omega⟩) rfl
  rw [View.readAt_rect]
  refine (congrArg BitVec.toNat h).trans ((hT _ ?_ ?_).trans (congrArg src ?_))
  · show b + k ≤ o + (x 0).val; omega
  · show o + (x 0).val < _; omega
  · show o + (x 0).val - b = _; omega

end Cert.Proof

end
-- ==== Proof.KernelIdealRow.lean ====
/-
  One row of a chunk (`k0_t2_body`): four groups of three blocks of the first result and nine of the second, each
  block a checked gather of sixteen elements of the fetched chunk stored behind the blocks already there.
-/
module

public import proofs.«01_k».proof.Defs
public import proofs.«01_k».proof.Proof.Pattern
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev 𝒱₀ : Variants := Variants.none

variable [FloatOps F]

/-! ## The tile's scratch while a chunk is being gathered -/

section Row

variable (d : Dev nD) (i : grid0.Coords)

/-- The tile at grid coordinates `i` of device `d`. -/
abbrev tile : Thread nD τ := V d ((i 0).castLE hcore0) ((i 1).castLE hsub0)

variable (arg7 : Memref sig .scVector .vmem S24576 .f32) (arg8 : Memref sig .scVector .vmem S6144 .f32) (arg9 : Memref sig .scVector .vmem S18432 .f32)
variable (f : Buf (Elt F) (arg7.view.loc (tile d i)))

/-- The chunk fetched holds `f`; the first `n8` elements of the first result's scratch and the first `n9` of the second's
    are filled from it. -/
def St (n8 n9 : ℕ) : sProp 𝕄 :=
  iprop((arg7.view.loc (tile d i) ↦{fullShare} f)
    ∗ (∃ f8, ⌜Filled srcCg n8 (arg8.view.read (Elt F) f8) ((arg7.access (.whole S24576)).read (Elt F) f)⌝ ∗ arg8.view.loc (tile d i) ↦{fullShare} f8)
    ∗ (∃ f9, ⌜Filled srcNcg n9 (arg9.view.read (Elt F) f9) ((arg7.access (.whole S24576)).read (Elt F) f)⌝ ∗ arg9.view.loc (tile d i) ↦{fullShare} f9))

variable {d i arg7 arg8 arg9 f}
variable {n8 n9 : ℕ}

/-- The state at equal counts is the same. -/
theorem St.congr {a b a' b' : ℕ} (h : a = a') (h' : b = b') : St d i arg7 arg8 arg9 f a b ⊢ St d i arg7 arg8 arg9 f a' b' := by
  subst h h'; exact .rfl

/-- A check that holds. -/
theorem step_assume {α : Type} {Q : α → sProp 𝕄} {A : sProp 𝕄} {P : Prop} {dec : Decidable P} {k : PLift P → Prog (TpuEff nD τ sig (Elt F) Λ₀ (tile d i).2) α}
    (h : P) (hk : A ⊢ wp frame (wpE (defs₀ (F := F)) 𝒱₀ (tile d i) none) Set.univ (k ⟨h⟩) Q) : A ⊢ wp frame (wpE (defs₀ (F := F)) 𝒱₀ (tile d i) none) Set.univ (Prog.lift (.assume P dec) >>= k) Q :=
  hk.trans (wp_assume 𝒱₀ _ none Set.univ h)

/-- A gather out of the fetched chunk. -/
theorem step_gather {α : Type} {Q : α → sProp 𝕄} {idx : IVec S16 32} {h} {hl} {k : Vec F S16 .f32 → Prog (TpuEff nD τ sig (Elt F) Λ₀ (tile d i).2) α}
    (hk : St d i arg7 arg8 arg9 f n8 n9 ⊢ wp frame (wpE (defs₀ (F := F)) 𝒱₀ (tile d i) none) Set.univ (k (loadIdx (F := F) (s := S24576) (t := S16) ((arg7.access (.whole S24576)).read (Elt F) f) ![idx] h)) Q) :
    St d i arg7 arg8 arg9 f n8 n9 ⊢ wp frame (wpE (defs₀ (F := F)) 𝒱₀ (tile d i) none) Set.univ (SparseCore.vectorLoadIdx arg7 ![idx] h hl >>= k) Q := by
  unfold St
  iintro ⟨H7, H8, H9⟩
  iapply (SparseCore.wp_vectorLoadIdx 𝒱₀ (tile d i) none Set.univ (base := arg7) (idxs := ![idx]) (h := h) (hl := hl) (k := k)
    (f := f) (q := fullShare) (Finset.subset_univ _)) $$ [H7]
  · iexact H7
  iintro H7
  iapply hk
  unfold St
  isplitl [H7]; · iexact H7
  isplitl [H8] <;> iassumption

/-- A load of the first result's scratch. -/
theorem step_load_cg {α : Type} {Q : α → sProp 𝕄} {rect : LoadRect S6144} {hl} {k : (rect.shape.Idx → Elt F .f32) → Prog (TpuEff nD τ sig (Elt F) Λ₀ (tile d i).2) α}
    (hk : ∀ v, St d i arg7 arg8 arg9 f n8 n9 ⊢ wp frame (wpE (defs₀ (F := F)) 𝒱₀ (tile d i) none) Set.univ (k v) Q) :
    St d i arg7 arg8 arg9 f n8 n9 ⊢ wp frame (wpE (defs₀ (F := F)) 𝒱₀ (tile d i) none) Set.univ (Prog.lift (.load arg8 rect hl) >>= k) Q := by
  unfold St
  iintro ⟨H7, ⟨%f8, %hf, H8⟩, H9⟩
  iapply (wp_load 𝒱₀ (tile d i) none Set.univ (Finset.subset_univ _)) $$ [H8]
  · iexact H8
  iintro H8
  iapply (hk _)
  unfold St
  isplitl [H7]; · iexact H7
  isplitl [H8]
  · iexists f8; isplitr
    · ipureintro; exact hf
    · iexact H8
  · iexact H9

/-- A load of the second result's scratch. -/
theorem step_load_ncg {α : Type} {Q : α → sProp 𝕄} {rect : LoadRect S18432} {hl} {k : (rect.shape.Idx → Elt F .f32) → Prog (TpuEff nD τ sig (Elt F) Λ₀ (tile d i).2) α}
    (hk : ∀ v, St d i arg7 arg8 arg9 f n8 n9 ⊢ wp frame (wpE (defs₀ (F := F)) 𝒱₀ (tile d i) none) Set.univ (k v) Q) :
    St d i arg7 arg8 arg9 f n8 n9 ⊢ wp frame (wpE (defs₀ (F := F)) 𝒱₀ (tile d i) none) Set.univ (Prog.lift (.load arg9 rect hl) >>= k) Q := by
  unfold St
  iintro ⟨H7, H8, %f9, %hf, H9⟩
  iapply (wp_load 𝒱₀ (tile d i) none Set.univ (Finset.subset_univ _)) $$ [H9]
  · iexact H9
  iintro H9
  iapply (hk _)
  unfold St
  isplitl [H7]; · iexact H7
  isplitl [H8]; · iexact H8
  iexists f9; isplitr
  · ipureintro; exact hf
  · iexact H9

/-- A gathered block stored behind those already in the first result's scratch. -/
theorem step_cg {α : Type} {Q : α → sProp 𝕄} {idx : IVec S16 32} {h : ∀ a x, ((![idx] : Fin 1 → IVec S16 32) a x).toNat < S24576.size a} {off : Fin 1 → ℕ} {inb} {hs} {hm} {k : PUnit → Prog (TpuEff nD τ sig (Elt F) Λ₀ (tile d i).2) α}
    (hoff : off = ![n8]) (hidx : Names srcCg n8 idx)
    (hk : St d i arg7 arg8 arg9 f (n8 + 16) n9 ⊢ wp frame (wpE (defs₀ (F := F)) 𝒱₀ (tile d i) none) Set.univ (k ⟨⟩) Q) :
    St d i arg7 arg8 arg9 f n8 n9 ⊢ wp frame (wpE (defs₀ (F := F)) 𝒱₀ (tile d i) none) Set.univ
      (Prog.lift (.store arg8 (Rect.unit (s := S6144) off ![16] inb) (loadIdx (F := F) (s := S24576) (t := S16) ((arg7.access (.whole S24576)).read (Elt F) f) ![idx] h) Finset.univ hs hm) >>= k) Q := by
  unfold St
  iintro ⟨H7, ⟨%f8, %hf, H8⟩, H9⟩
  iapply (wp_store 𝒱₀ (tile d i) none Set.univ (Finset.subset_univ _)) $$ [H8]
  · iexact H8
  iintro H8
  iapply hk
  unfold St
  isplitl [H7]; · iexact H7
  isplitl [H8]
  · iexists _; isplitr; swap
    · iexact H8
    · ipureintro; exact Filled.store hoff hidx hf
  · iexact H9

/-- A gathered block stored behind those already in the second result's scratch. -/
theorem step_ncg {α : Type} {Q : α → sProp 𝕄} {idx : IVec S16 32} {h : ∀ a x, ((![idx] : Fin 1 → IVec S16 32) a x).toNat < S24576.size a} {off : Fin 1 → ℕ} {inb} {hs} {hm} {k : PUnit → Prog (TpuEff nD τ sig (Elt F) Λ₀ (tile d i).2) α}
    (hoff : off = ![n9]) (hidx : Names srcNcg n9 idx)
    (hk : St d i arg7 arg8 arg9 f n8 (n9 + 16) ⊢ wp frame (wpE (defs₀ (F := F)) 𝒱₀ (tile d i) none) Set.univ (k ⟨⟩) Q) :
    St d i arg7 arg8 arg9 f n8 n9 ⊢ wp frame (wpE (defs₀ (F := F)) 𝒱₀ (tile d i) none) Set.univ
      (Prog.lift (.store arg9 (Rect.unit (s := S18432) off ![16] inb) (loadIdx (F := F) (s := S24576) (t := S16) ((arg7.access (.whole S24576)).read (Elt F) f) ![idx] h) Finset.univ hs hm) >>= k) Q := by
  unfold St
  iintro ⟨H7, H8, %f9, %hf, H9⟩
  iapply (wp_store 𝒱₀ (tile d i) none Set.univ (Finset.subset_univ _)) $$ [H9]
  · iexact H9
  iintro H9
  iapply hk
  unfold St
  isplitl [H7]; · iexact H7
  isplitl [H8]; · iexact H8
  iexists _; isplitr; swap
  · iexact H9
  · ipureintro; exact Filled.store hoff hidx hf

/-- A store to the first result's scratch, recognised as one. -/
theorem at_store_cg {α : Type} {Q : α → sProp 𝕄} {A : sProp 𝕄} {m : Memref sig .scVector .vmem S6144 .f32} {rect : Rect S6144} {w} {Mk} {hs} {hm} {k : PUnit → Prog (TpuEff nD τ sig (Elt F) Λ₀ (tile d i).2) α}
    (h : A ⊢ wp frame (wpE (defs₀ (F := F)) 𝒱₀ (tile d i) none) Set.univ (Prog.lift (.store m rect w Mk hs hm) >>= k) Q) :
    A ⊢ wp frame (wpE (defs₀ (F := F)) 𝒱₀ (tile d i) none) Set.univ (Prog.lift (.store m rect w Mk hs hm) >>= k) Q := h

/-- A store to the second result's scratch, recognised as one. -/
theorem at_store_ncg {α : Type} {Q : α → sProp 𝕄} {A : sProp 𝕄} {m : Memref sig .scVector .vmem S18432 .f32} {rect : Rect S18432} {w} {Mk} {hs} {hm} {k : PUnit → Prog (TpuEff nD τ sig (Elt F) Λ₀ (tile d i).2) α}
    (h : A ⊢ wp frame (wpE (defs₀ (F := F)) 𝒱₀ (tile d i) none) Set.univ (Prog.lift (.store m rect w Mk hs hm) >>= k) Q) :
    A ⊢ wp frame (wpE (defs₀ (F := F)) 𝒱₀ (tile d i) none) Set.univ (Prog.lift (.store m rect w Mk hs hm) >>= k) Q := h

/-- A value returned. -/
theorem step_pure {α : Type} {Q : α → sProp 𝕄} {A : sProp 𝕄} {a : α} (h : A ⊢ Q a) : A ⊢ wp frame (wpE (defs₀ (F := F)) 𝒱₀ (tile d i) none) Set.univ (pure a) Q :=
  h.trans fupd_intro

/-- A part of the row in front of the rest. -/
theorem step_bind {α β : Type} {Q : α → sProp 𝕄} {A : sProp 𝕄} {p : Prog (TpuEff nD τ sig (Elt F) Λ₀ (tile d i).2) β} {k : β → Prog (TpuEff nD τ sig (Elt F) Λ₀ (tile d i).2) α}
    (h : A ⊢ wp frame (wpE (defs₀ (F := F)) 𝒱₀ (tile d i) none) Set.univ p fun a => wp frame (wpE (defs₀ (F := F)) 𝒱₀ (tile d i) none) Set.univ (k a) Q) :
    A ⊢ wp frame (wpE (defs₀ (F := F)) 𝒱₀ (tile d i) none) Set.univ (p >>= k) Q := by
  rw [wp_bind]; exact h

/-- A gather out of the fetched chunk whose value is the one returned. -/
theorem step_gather_last {Q : Vec F S16 .f32 → sProp 𝕄} {idx : IVec S16 32} {h} {hl}
    (hk : St d i arg7 arg8 arg9 f n8 n9 ⊢ Q (loadIdx (F := F) (s := S24576) (t := S16) ((arg7.access (.whole S24576)).read (Elt F) f) ![idx] h)) :
    St d i arg7 arg8 arg9 f n8 n9 ⊢ wp frame (wpE (defs₀ (F := F)) 𝒱₀ (tile d i) none) Set.univ (SparseCore.vectorLoadIdx (t := S16) arg7 ![idx] h hl) Q := by
  have h1 := step_gather (F := F) (k := pure) (h := h) (hl := hl) (Q := Q) (step_pure hk)
  rwa [bind_pure] at h1

set_option maxHeartbeats 2000000 in
/-- A row stores its 192 and 576 elements behind those of the rows before it. -/
theorem row {arg2 : Memref sig .scVector .hbm S12582912 .f32} {harg2 : arg2.IsWhole} {arg3 : Memref sig .scVector .hbm S192 .i32} {harg3 : arg3.IsWhole}
    {arg4 : Memref sig .scVector .hbm S3145728 .f32} {harg4 : arg4.IsWhole} {arg5 : Memref sig .scVector .hbm S9437184 .f32} {harg5 : arg5.IsWhole}
    {arg6 : Memref sig .scVector .vmem S192 .i32} {harg6 : arg6.IsWhole} {harg7 : arg7.IsWhole} {harg8 : arg8.IsWhole} {harg9 : arg9.IsWhole}
    {s0 s1 s2 s3 : DmaSems sig S_} {v3 v4 v5 v6 v7 v8 v9 v10 v11 v12 v13 v14 : Vec F S16 .i32}
    (h3 : Names srcCg 0 v3) (h4 : Names srcCg 16 v4) (h5 : Names srcCg 32 v5)
    (h6 : Names srcNcg 0 v6) (h7 : Names srcNcg 16 v7) (h8 : Names srcNcg 32 v8) (h9 : Names srcNcg 48 v9) (h10 : Names srcNcg 64 v10)
    (h11 : Names srcNcg 80 v11) (h12 : Names srcNcg 96 v12) (h13 : Names srcNcg 112 v13) (h14 : Names srcNcg 128 v14)
    (r : Fin k0_t2_loop.trips) :
    St d i arg7 arg8 arg9 f (192 * r.val) (576 * r.val)
      ⊢ wp frame (wpE (defs₀ (F := F)) 𝒱₀ (tile d i) none) Set.univ
          (k0_t2_body (F := F) i arg2 harg2 arg3 harg3 arg4 harg4 arg5 harg5 arg6 harg6 arg7 harg7 arg8 harg8 arg9 harg9 s0 s1 s2 s3 v3 v4 v5 v6 v7 v8 v9 v10 v11 v12 v13 v14 r ())
          fun _ => St d i arg7 arg8 arg9 f (192 * (r.val + 1)) (576 * (r.val + 1)) := by
  have hr : r.val < 32 := r.isLt
  unfold k0_t2_body
  beta_reduce
  refine step_bind (F := F) ?_
  rw [k0_part1_eq_skeleton (F := F)]; unfold k0_part1_skel
  dsimp only
  repeat first
    | (with_reducible refine step_assume (F := F) ?_ ?_
       · first | (refine inb_cg hr (by assumption) ?_ ?_ <;> decide) | (refine inb_ncg hr (by assumption) ?_ ?_ <;> decide))
    | with_reducible refine step_gather (F := F) ?_
    | with_reducible refine step_load_cg (F := F) fun _ => ?_
    | with_reducible refine step_load_ncg (F := F) fun _ => ?_
    | (with_reducible refine step_bind (F := F) ?_
       fail_if_success (with_reducible show _ ⊢ wp frame (wpE (defs₀ (F := F)) 𝒱₀ (tile d i) none) Set.univ (Prog.lift _) _)
       first
         | (rw [k0_part2_eq_skeleton (F := F)]; unfold k0_part2_skel)
         | (rw [k0_part3_eq_skeleton (F := F)]; unfold k0_part3_skel)
         | (rw [k0_part4_eq_skeleton (F := F)]; unfold k0_part4_skel)
         | (rw [k0_part5_eq_skeleton (F := F)]; unfold k0_part5_skel)
         | (rw [k0_part6_eq_skeleton (F := F)]; unfold k0_part6_skel)
         | (rw [k0_part7_eq_skeleton (F := F)]; unfold k0_part7_skel)
         | (rw [k0_part8_eq_skeleton (F := F)]; unfold k0_part8_skel)
         | (rw [k0_part9_eq_skeleton (F := F)]; unfold k0_part9_skel)
         | (rw [k0_part10_eq_skeleton (F := F)]; unfold k0_part10_skel)
       dsimp only)
    | (with_reducible refine step_gather_last (F := F) ?_
       try dsimp only)
    | (refine step_pure (F := F) ?_
       try dsimp only)
    | (with_reducible refine at_store_cg (F := F) ?_
       refine step_cg (F := F) ?_ ?_ ?_
       · refine ClosedOff.eq.trans (congrArg (fun x : ℕ => ![x]) ?_); omega
       · refine names_cg hr ?_ (by assumption) ?_ ?_ ?_ <;> first | decide | omega)
    | (with_reducible refine at_store_ncg (F := F) ?_
       refine step_ncg (F := F) ?_ ?_ ?_
       · refine ClosedOff.eq.trans (congrArg (fun x : ℕ => ![x]) ?_); omega
       · refine names_ncg hr ?_ (by assumption) ?_ ?_ ?_ <;> first | decide | omega)
  exact St.congr (by omega) (by omega)

end Row

end Cert.Proof.OnKernelIdeal

end
-- ==== Proof.KernelIdealTile.lean ====
/-
  One tile's task (`cc0_k`): the pattern fetched, then sixteen chunks of the flat input, each fetched, gathered row by
  row (`row`) and written out to the tile's own run of each result. The invariant of the chunks' loop states what each
  run holds so far.
-/
module

public import proofs.«01_k».proof.Proof.Chunk
public import proofs.«01_k».proof.Proof.KernelIdealRow

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The arrays and the scratches -/

abbrev xV : Memref sig .scVector .hbm S12582912 .f32 := Memref.whole main_v0_scv
abbrev pV : Memref sig .scVector .hbm S192 .i32 := Memref.whole main_c_scv
abbrev cV : Memref sig .scVector .hbm S3145728 .f32 := Memref.whole main_v1_0_scv
abbrev nV : Memref sig .scVector .hbm S9437184 .f32 := Memref.whole main_v1_1_scv
abbrev s6 : Memref sig .scVector .vmem S192 .i32 := Memref.whole cc0_scratch0
abbrev s7 : Memref sig .scVector .vmem S24576 .f32 := Memref.whole cc0_scratch1
abbrev s8 : Memref sig .scVector .vmem S6144 .f32 := Memref.whole cc0_scratch2
abbrev s9 : Memref sig .scVector .vmem S18432 .f32 := Memref.whole cc0_scratch3

/-- The elements of the first result tile number `w` writes. -/
def regC (w : ℕ) : Finset S3145728.Idx := Finset.univ.filter fun j => (j 0).val / 98304 = w
/-- The elements of the second result tile number `w` writes. -/
def regN (w : ℕ) : Finset S9437184.Idx := Finset.univ.filter fun j => (j 0).val / 294912 = w

/-- A tile's number, by which the kernel lays out its runs. -/
abbrev wid (i : grid0.Coords) : ℕ := 2 * (i 1).val + (i 0).val

section Tile

variable (d : Dev nD) (i : grid0.Coords)

/-- What the tile owes, with waits of its own recorded beyond `W`. -/
def Owe (O : CellTallies nD τ sig (HIx 1)) (W : Waits sig (HIx 1)) : sProp 𝕄 :=
  iprop(∃ W', ⌜∀ p ∈ W', p ∈ W ∨ p.2 = none⌝ ∗ owes (tile d i) O W')

variable {d i} {O : CellTallies nD τ sig (HIx 1)} {W : Waits sig (HIx 1)}

/-- A copy issued and waited for at once. -/
theorem step_copy {α : Type} {Q : α → sProp 𝕄} {sp sp' : Space} {s : Shape} {e : EltTy} {src : Memref sig .scVector sp s e}
    {dst : Memref sig .scVector sp' s e} {sem : DmaSem sig} {hs hd ht hs' hd'}
    {k : PUnit → Prog (TpuEff nD τ sig (Elt F) Λ₀ (tile d i).2) α}
    {q : PosShare TreeShare} {fs : Buf (Elt F) (src.view.loc (tile d i))} {fd : Buf (Elt F) (dst.view.loc (tile d i))}
    (Ss : Finset (Idx (src.view.loc (tile d i)))) (Sd : Finset (Idx (dst.view.loc (tile d i))))
    (hSs : src.view.set ⊆ Ss) (hSd : dst.view.set ⊆ Sd) (h0 : 0 < s.numel) :
    iprop(Transfers.MayWaits (tile d i) (none : HIx 1) O ∗ (src.view.loc (tile d i) ↦[Ss]{q} fs) ∗ (dst.view.loc (tile d i) ↦[Sd]{fullShare} fd)
        ∗ semVal (tile d i, SemLoc.dma sem) 0 ∗ Owe d i O W)
      ⊢ iprop((iprop((src.view.loc (tile d i) ↦[Ss]{q} fs)
            ∗ (dst.view.loc (tile d i) ↦[Sd]{fullShare} dst.view.write (Elt F) fd (src.view.read (Elt F) fs) Finset.univ)
            ∗ semVal (tile d i, SemLoc.dma sem) 0 ∗ Owe d i O W) -∗ wp frame (wpE (defs₀ (F := F)) 𝒱₀ (tile d i) none) Set.univ (k ⟨⟩) Q)
        -∗ wp frame (wpE (defs₀ (F := F)) 𝒱₀ (tile d i) none) Set.univ
            (Prog.lift (.enqueueDma src (.here dst) (.dma sem) hs hd ht) >>= fun _ => Prog.lift (.waitDma2 sem src dst hs' hd') >>= k) Q) := by
  simp only [Prog.lift, Prog.bind_op, Prog.bind_ret]
  unfold Owe
  iintro ⟨#Hmw, Hs, Hd, Hv, %W', %hW', HO⟩ Hk
  ihave Hs' := (pointsTo_split_subset (q := q) (f := fs) hSs).1 $$ Hs
  icases Hs' with ⟨Hs, Hrest⟩
  iapply (Transfers.wp_dmaLocal countersEmb 𝒱₀ (tile d i) none (none : HIx 1) _ rfl (View.amount_pos _ _ h0) hSd) $$ [Hs Hd Hv]
  · isplitl [Hs]; · iexact Hs
    isplitl [Hd] <;> iassumption
  iintro HF
  iapply (Transfers.wp_waitLocalO countersEmb 𝒱₀ (tile d i) none (none : HIx 1) rfl) $$ [HF HO]
  · isplitl [HF]; · iexact HF
    isplitl [HO]; · iexact HO
    iapply (Transfers.MayWaits.elim (SemLoc.dma sem)); iexact Hmw
  iintro ⟨⟨Hd, Hs⟩, Hv, HO⟩
  iapply Hk
  isplitl [Hs Hrest]
  · iapply (pointsTo_split_subset (q := q) (f := fs) hSs).2
    isplitl [Hs] <;> iassumption
  isplitl [Hd]; · iexact Hd
  isplitl [Hv]; · iexact Hv
  iexists (insert (SemLoc.dma sem, none) W'); isplitr
  · ipureintro; intro p hp
    rcases Finset.mem_insert.mp hp with hp | hp
    · exact .inr (hp ▸ rfl)
    · exact hW' p hp
  · iexact HO

variable (d i O W)
variable (q : PosShare TreeShare) (X : Buf (Elt F) (xV.view.loc (tile d i)))

/-- The state between chunks: the first `t` chunks' runs of the two results are filled. -/
def Outer (t : ℕ) : sProp 𝕄 :=
  iprop(Transfers.MayWaits (tile d i) (none : HIx 1) O
    ∗ (xV.view.loc (tile d i) ↦{q} X)
    ∗ (∃ f, s7.view.loc (tile d i) ↦{fullShare} f) ∗ (∃ f, s8.view.loc (tile d i) ↦{fullShare} f) ∗ (∃ f, s9.view.loc (tile d i) ↦{fullShare} f)
    ∗ (∃ f, ⌜FilledIn srcCg (98304 * wid i) (6144 * t) (cV.view.read (Elt F) f) (xV.view.read (Elt F) X)⌝ ∗ cV.view.loc (tile d i) ↦[regC (wid i)]{fullShare} f)
    ∗ (∃ f, ⌜FilledIn srcNcg (294912 * wid i) (18432 * t) (nV.view.read (Elt F) f) (xV.view.read (Elt F) X)⌝ ∗ nV.view.loc (tile d i) ↦[regN (wid i)]{fullShare} f)
    ∗ semVal (tile d i, SemLoc.dma cc0_scoped1.sem) 0 ∗ semVal (tile d i, SemLoc.dma cc0_scoped2.sem) 0 ∗ semVal (tile d i, SemLoc.dma cc0_scoped3.sem) 0
    ∗ Owe d i O W)

variable {d i O W q X}

/-- The run of the first result a chunk is written to lies in the tile's part of it. -/
theorem set_cV (t : Fin k0_t1_loop.trips) :
    (cV.slice (Rect.unit (s := S3145728) (k0_off50 i t) S6144.size (k0_off50_inb i t)) (fun _ => rfl)).view.set ⊆ regC (wid i) := by
  have ht : t.val < 16 := t.isLt
  have h : (cV.slice (Rect.unit (s := S3145728) (k0_off50 i t) S6144.size (k0_off50_inb i t)) (fun _ => rfl)).view.set = _ := View.set_slice_whole _ _
  rw [h]
  intro j hj
  have := Rect.mem_set_unit.mp hj 0
  rw [k0_off50_eq] at this
  have h0 : 196608 * (i 1).val + 98304 * (i 0).val + 6144 * t.val ≤ (j 0).val ∧ (j 0).val < 196608 * (i 1).val + 98304 * (i 0).val + 6144 * t.val + 6144 := this
  refine Finset.mem_filter.mpr ⟨Finset.mem_univ _, ?_⟩
  show (j 0).val / 98304 = 2 * (i 1).val + (i 0).val
  omega

/-- The run of the second result a chunk is written to lies in the tile's part of it. -/
theorem set_nV (t : Fin k0_t1_loop.trips) :
    (nV.slice (Rect.unit (s := S9437184) (k0_off51 i t) S18432.size (k0_off51_inb i t)) (fun _ => rfl)).view.set ⊆ regN (wid i) := by
  have ht : t.val < 16 := t.isLt
  have h : (nV.slice (Rect.unit (s := S9437184) (k0_off51 i t) S18432.size (k0_off51_inb i t)) (fun _ => rfl)).view.set = _ := View.set_slice_whole _ _
  rw [h]
  intro j hj
  have := Rect.mem_set_unit.mp hj 0
  rw [k0_off51_eq] at this
  have h0 : 589824 * (i 1).val + 294912 * (i 0).val + 18432 * t.val ≤ (j 0).val ∧ (j 0).val < 589824 * (i 1).val + 294912 * (i 0).val + 18432 * t.val + 18432 := this
  refine Finset.mem_filter.mpr ⟨Finset.mem_univ _, ?_⟩
  show (j 0).val / 294912 = 2 * (i 1).val + (i 0).val
  omega

set_option maxHeartbeats 2000000 in
/-- One chunk: fetched, gathered, and its run of each result written. -/
theorem chunk {v3 v4 v5 v6 v7 v8 v9 v10 v11 v12 v13 v14 : Vec F S16 .i32} (h3 : Names srcCg 0 v3) (h4 : Names srcCg 16 v4) (h5 : Names srcCg 32 v5)
    (h6 : Names srcNcg 0 v6) (h7 : Names srcNcg 16 v7) (h8 : Names srcNcg 32 v8) (h9 : Names srcNcg 48 v9) (h10 : Names srcNcg 64 v10)
    (h11 : Names srcNcg 80 v11) (h12 : Names srcNcg 96 v12) (h13 : Names srcNcg 112 v13) (h14 : Names srcNcg 128 v14) (t : Fin k0_t1_loop.trips) :
    Outer d i O W q X t.val
      ⊢ wp frame (wpE (defs₀ (F := F)) 𝒱₀ (tile d i) none) Set.univ
          (k0_t1_body (F := F) i xV (Memref.isWhole_whole _) pV (Memref.isWhole_whole _) cV (Memref.isWhole_whole _) nV (Memref.isWhole_whole _)
            s6 (Memref.isWhole_whole _) s7 (Memref.isWhole_whole _) s8 (Memref.isWhole_whole _) s9 (Memref.isWhole_whole _)
            cc0_scoped0 cc0_scoped1 cc0_scoped2 cc0_scoped3 v3 v4 v5 v6 v7 v8 v9 v10 v11 v12 v13 v14 t ())
          fun _ => Outer d i O W q X (t.val + 1) := by
  have ht : t.val < 16 := t.isLt
  have hi1 : (i 1).val < 16 := (i 1).isLt
  have hi0 : (i 0).val < 2 := (i 0).isLt
  unfold k0_t1_body Outer
  dsimp only
  iintro ⟨#Hmw, Hx, ⟨%f7, H7⟩, ⟨%f8, H8⟩, ⟨%f9, H9⟩, ⟨%fc, %hfc, Hc⟩, ⟨%fn, %hfn, Hn⟩, Hs1, Hs2, Hs3, HO⟩
  iapply (step_copy (O := O) (W := W) (q := q) (src := xV.slice (Rect.unit (s := S12582912) (k0_off1 i t) S24576.size (k0_off1_inb i t)) (fun _ => rfl)) (dst := s7) (fs := X) (fd := f7) Finset.univ Finset.univ (Finset.subset_univ _) (Finset.subset_univ _) (show 0 < S24576.numel by decide)) $$ [Hx H7 Hs1 HO]
  · isplitr; · iexact Hmw
    isplitl [Hx]; · iexact Hx
    isplitl [H7]; · iexact H7
    isplitl [Hs1] <;> iassumption
  iintro ⟨Hx, H7, Hs1, HO⟩
  rw [show ∀ w, s7.view.write (Elt F) f7 w Finset.univ = w from fun w => View.write_whole_univ _ _ _]
  generalize hg : (xV.slice (Rect.unit (s := S12582912) (k0_off1 i t) S24576.size (k0_off1_inb i t)) (fun _ => rfl)).view.read (Elt F) X = g
  have hg' : ∀ (j : S24576.Idx) (k : S12582912.Idx), (k 0).val = (786432 * (i 1).val + 393216 * (i 0).val + 24576 * t.val) + (j 0).val →
      (s7.access (.whole S24576)).read (Elt F) g j = xV.view.read (Elt F) X k := by
    intro j k hk
    refine (congrFun (Memref.read_access_whole (Elt F) cc0_scratch1 g) j).trans ?_
    rw [← hg]
    exact read_run (k0_off1_eq i t) j k hk
  iapply (Scf.wp_for_bind frame (wpE (defs₀ (F := F)) 𝒱₀ (tile d i) none) Set.univ _ _ _ k0_t2_ok () _
      (fun r _ => St d i s7 s8 s9 g (192 * r) (576 * r))
      (fun r _ => row h3 h4 h5 h6 h7 h8 h9 h10 h11 h12 h13 h14 r)) $$ [H7 H8 H9]
  · unfold St
    isplitl [H7]; · iexact H7
    isplitl [H8]
    · iexists f8; isplitr
      · ipureintro; exact Filled.zero _ _ _
      · iexact H8
    · iexists f9; isplitr
      · ipureintro; exact Filled.zero _ _ _
      · iexact H9
  iintro %_ HS
  unfold St
  icases HS with ⟨H7, ⟨%g8, %hg8, H8⟩, ⟨%g9, %hg9, H9⟩⟩
  iapply (step_copy (O := O) (W := W) (q := fullShare) (src := s8) (dst := cV.slice (Rect.unit (s := S3145728) (k0_off50 i t) S6144.size (k0_off50_inb i t)) (fun _ => rfl)) (fs := g8) (fd := fc) Finset.univ (regC (wid i)) (Finset.subset_univ _) (set_cV t) (show 0 < S6144.numel by decide)) $$ [H8 Hc Hs2 HO]
  · isplitr; · iexact Hmw
    isplitl [H8]; · iexact H8
    isplitl [Hc]; · iexact Hc
    isplitl [Hs2] <;> iassumption
  iintro ⟨H8, Hc, Hs2, HO⟩
  iapply (step_copy (O := O) (W := W) (q := fullShare) (src := s9) (dst := nV.slice (Rect.unit (s := S9437184) (k0_off51 i t) S18432.size (k0_off51_inb i t)) (fun _ => rfl)) (fs := g9) (fd := fn) Finset.univ (regN (wid i)) (Finset.subset_univ _) (set_nV t) (show 0 < S18432.numel by decide)) $$ [H9 Hn Hs3 HO]
  · isplitr; · iexact Hmw
    isplitl [H9]; · iexact H9
    isplitl [Hn]; · iexact Hn
    isplitl [Hs3] <;> iassumption
  iintro ⟨H9, Hn, Hs3, HO⟩
  rw [Prog.pure_eq_ret, wp_ret]; imodintro
  isplitr; · iexact Hmw
  isplitl [Hx]; · iexact Hx
  isplitl [H7]; · iexists _; iexact H7
  isplitl [H8]; · iexists _; iexact H8
  isplitl [H9]; · iexists _; iexact H9
  isplitl [Hc]
  · iexists _; isplitr; swap; · iexact Hc
    ipureintro
    refine FilledIn.write (lo := 98304 * (2 * (i 1).val + (i 0).val)) (n := 6144 * t.val) (o := 786432 * (i 1).val + 393216 * (i 0).val + 24576 * t.val) hfc hg8 hg' ((k0_off50_eq i t).trans ?_) ?_ ?_
    · refine congrArg (fun x : ℕ => ![x]) ?_; omega
    · intro j hj; unfold srcCg; omega
    · intro j hj; unfold srcCg; omega
  isplitl [Hn]
  · iexists _; isplitr; swap; · iexact Hn
    ipureintro
    refine FilledIn.write (lo := 294912 * (2 * (i 1).val + (i 0).val)) (n := 18432 * t.val) (o := 786432 * (i 1).val + 393216 * (i 0).val + 24576 * t.val) hfn hg9 hg' ((k0_off51_eq i t).trans ?_) ?_ ?_
    · refine congrArg (fun x : ℕ => ![x]) ?_; omega
    · intro j hj; unfold srcNcg; omega
    · intro j hj; unfold srcNcg; omega
  isplitl [Hs1]; · iexact Hs1
  isplitl [Hs2]; · iexact Hs2
  isplitl [Hs3] <;> iassumption

/-! ## The pattern -/

/-- The pattern table: 48 words naming the first result's sources in a group of rows, then 144 naming the second's. -/
def Table (pat : S192.Idx → BitVec 32) : Prop :=
  ∀ j, ((j 0).val < 48 → (pat j).toNat = srcCg (j 0).val) ∧ (48 ≤ (j 0).val → (pat j).toNat = srcNcg ((j 0).val - 48))

variable {pat : S192.Idx → BitVec 32}

theorem load_cg {k : ℕ} {inb : ∀ a, (![k] : Fin 1 → ℕ) a + (![16] : Fin 1 → ℕ) a ≤ S192.size a} (hT : Table pat) (hk : k + 16 ≤ 48) :
    Names srcCg k (s6.view.readAt (Elt F) (Rect.unit (s := S192) ![k] ![16] inb).toLoadRect pat) :=
  Names.load (m := s6.view) (f := pat) (b := 0) rfl (by omega) (by omega) fun j _ h => (hT j).1 (by omega)

theorem load_ncg {o k : ℕ} {inb : ∀ a, (![o] : Fin 1 → ℕ) a + (![16] : Fin 1 → ℕ) a ≤ S192.size a} (hT : Table pat) (ho : o = 48 + k)
    (hk : o + 16 ≤ 192) :
    Names srcNcg k (s6.view.readAt (Elt F) (Rect.unit (s := S192) ![o] ![16] inb).toLoadRect pat) :=
  Names.load (m := s6.view) (f := pat) (b := 48) rfl hk ho fun j h _ => (hT j).2 (by omega)

end Tile

/-! ## The program as the launch theorem sees it -/

abbrev ΛP : Labels := Pipeline.Sig Λ₀ (Fin 0) fun p => (pcfgs (F := F) p).Adm
abbrev K : SparseCore.Cfg τ sig (ΛP (F := F)) 1 := sc (F := F)

/-- The flat input, the pattern and the two flat results, as locations of device `d`. -/
abbrev xLoc (d : Dev nD) : Loc nD τ sig := (SparseCore.T d).loc main_v0
abbrev pLoc (d : Dev nD) : Loc nD τ sig := (SparseCore.T d).loc main_c
abbrev cLoc (d : Dev nD) : Loc nD τ sig := (SparseCore.T d).loc main_v1_0
abbrev nLoc (d : Dev nD) : Loc nD τ sig := (SparseCore.T d).loc main_v1_1

/-- The two flat results as functions of the flat input. -/
abbrev cgOf (X : S12582912.Idx → F .f32) : S3145728.Idx → F .f32 := pick (b := 12582912) (by decide) 3145728 srcCg X
abbrev ncgOf (X : S12582912.Idx → F .f32) : S9437184.Idx → F .f32 := pick (b := 12582912) (by decide) 9437184 srcNcg X

section Body

variable (d : Dev nD) (i : grid0.Coords) (q : PosShare TreeShare)

/-- What a tile is handed: a share of the flat input and of the pattern, and its part of each result. -/
def goPay (X : S12582912.Idx → F .f32) (pat : S192.Idx → BitVec 32) : sProp 𝕄 :=
  iprop((xLoc d ↦{q} X) ∗ (pLoc d ↦{q} pat) ∗ (∃ f, cLoc d ↦[regC (wid i)]{fullShare} f) ∗ ∃ f, nLoc d ↦[regN (wid i)]{fullShare} f)

/-- What it hands back: the same, its part of each result holding the elements the pattern names. -/
def tdPay (X : S12582912.Idx → F .f32) (pat : S192.Idx → BitVec 32) : sProp 𝕄 :=
  iprop((xLoc d ↦{q} X) ∗ (pLoc d ↦{q} pat) ∗ (cLoc d ↦[regC (wid i)]{fullShare} cgOf X) ∗ nLoc d ↦[regN (wid i)]{fullShare} ncgOf X)

instance goPay_storable (X : S12582912.Idx → F .f32) (pat : S192.Idx → BitVec 32) : BI.Storable (upEmb : UEmb _ 𝕄) (goPay d i q X pat) := by
  unfold goPay; infer_instance
instance tdPay_storable (X : S12582912.Idx → F .f32) (pat : S192.Idx → BitVec 32) : BI.Storable (upEmb : UEmb _ 𝕄) (tdPay d i q X pat) := by
  unfold tdPay; infer_instance

variable {d i q}

omit [FloatOps F] in
theorem cg_done {X : S12582912.Idx → F .f32} {f : S3145728.Idx → F .f32} (h : FilledIn srcCg (98304 * wid i) 98304 f X) :
    (cLoc d ↦[regC (wid i)]{fullShare} f : sProp 𝕄) = cLoc d ↦[regC (wid i)]{fullShare} cgOf X :=
  pointsTo_congr fun j hj => by
    have hj' : (j 0).val / 98304 = wid i := (Finset.mem_filter.mp hj).2
    exact h.eq_pick _ (fun j hj => by unfold srcCg; omega) j (by omega) (by omega)

omit [FloatOps F] in
theorem ncg_done {X : S12582912.Idx → F .f32} {f : S9437184.Idx → F .f32} (h : FilledIn srcNcg (294912 * wid i) 294912 f X) :
    (nLoc d ↦[regN (wid i)]{fullShare} f : sProp 𝕄) = nLoc d ↦[regN (wid i)]{fullShare} ncgOf X :=
  pointsTo_congr fun j hj => by
    have hj' : (j 0).val / 294912 = wid i := (Finset.mem_filter.mp hj).2
    exact h.eq_pick _ (fun j hj => by unfold srcNcg; omega) j (by omega) (by omega)

end Body

section Scoped

open Idealize.ShloMosaic.SparseCore.Cfg (ownBufs ownSems0 ownCells ownRefs mem_ownCells)

variable (d : Dev nD) (i : grid0.Coords)

/-- The tile's processor, and the four counters of its copies. -/
abbrev tp (i : grid0.Coords) : Proc τ := .scVector ((i 0).castLE hcore0) ((i 1).castLE hsub0)
abbrev cell0 : GSem nD τ sig := (tile d i, .dma cc0_scoped0.sem)
abbrev cell1 : GSem nD τ sig := (tile d i, .dma cc0_scoped1.sem)
abbrev cell2 : GSem nD τ sig := (tile d i, .dma cc0_scoped2.sem)
abbrev cell3 : GSem nD τ sig := (tile d i, .dma cc0_scoped3.sem)

omit [FloatOps F] in
/-- The four counters are among the tile's own. -/
theorem ownSems0_tile :
    (ownSems0 (tile d i) : sProp 𝕄)
      = iprop(semVal (cell0 d i) 0 ∗ semVal (cell1 d i) 0 ∗ semVal (cell2 d i) 0 ∗ semVal (cell3 d i) 0
          ∗ bigSep (((((ownCells (tile d i)).erase (cell0 d i)).erase (cell1 d i)).erase (cell2 d i)).erase (cell3 d i)) fun g => semVal g 0) := by
  have hm : ∀ s : DmaSem sig, (SemLoc.dma s : SemLoc sig).isScoped .scVector = true → ((tile d i, SemLoc.dma s) : GSem nD τ sig) ∈ ownCells (tile d i) :=
    fun s hs => mem_ownCells.mpr ⟨rfl, hs⟩
  have hne : ∀ s t : DmaSem sig, s ≠ t → ((tile d i, SemLoc.dma s) : GSem nD τ sig) ≠ (tile d i, SemLoc.dma t) := fun s t h e => h (by simpa using e)
  unfold SparseCore.Cfg.ownSems0
  rw [SparseCore.bigSep_erase' (hm cc0_scoped0.sem (by decide)),
    SparseCore.bigSep_erase' (Finset.mem_erase.mpr ⟨hne _ _ (by decide), hm cc0_scoped1.sem (by decide)⟩),
    SparseCore.bigSep_erase' (Finset.mem_erase.mpr ⟨hne _ _ (by decide), Finset.mem_erase.mpr ⟨hne _ _ (by decide), hm cc0_scoped2.sem (by decide)⟩⟩),
    SparseCore.bigSep_erase' (Finset.mem_erase.mpr ⟨hne _ _ (by decide), Finset.mem_erase.mpr ⟨hne _ _ (by decide), Finset.mem_erase.mpr ⟨hne _ _ (by decide), hm cc0_scoped3.sem (by decide)⟩⟩⟩)]

abbrev buf (i : grid0.Coords) (b : Ref sig .scVector) : DevRef τ sig := (tp i).devRef b

omit [FloatOps F] in
/-- The four scratches are among the tile's own buffers. -/
theorem ownBufs_tile :
    (ownBufs (tile d i) : sProp 𝕄)
      = iprop((∃ f, (tile d i).loc cc0_scratch0 ↦{fullShare} f) ∗ (∃ f, (tile d i).loc cc0_scratch1 ↦{fullShare} f)
          ∗ (∃ f, (tile d i).loc cc0_scratch2 ↦{fullShare} f) ∗ (∃ f, (tile d i).loc cc0_scratch3 ↦{fullShare} f)
          ∗ bigSep (((((ownRefs (τ := τ) (tp i)).erase (buf i cc0_scratch0)).erase (buf i cc0_scratch1)).erase (buf i cc0_scratch2)).erase (buf i cc0_scratch3))
              fun b => iprop(∃ f, ((d, b) : Loc nD τ sig) ↦{fullShare} f)) := by
  have hne : ∀ s t : Ref sig .scVector, s ≠ t → buf i s ≠ buf i t := fun s t h e => h (Proc.devRef_injective _ e)
  have hm : ∀ b : Ref sig .scVector, (buf i b).owner = .proc (tp i) → buf i b ∈ ownRefs (τ := τ) (tp i) :=
    fun b hb => SparseCore.Cfg.mem_ownRefs_of_owner (p := tp i) hb
  unfold SparseCore.Cfg.ownBufs
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩),
    SparseCore.bigSep_erase' (Finset.mem_erase.mpr ⟨hne _ _ (by decide), Finset.mem_erase.mpr ⟨hne _ _ (by decide), Finset.mem_erase.mpr ⟨hne _ _ (by decide), hm cc0_scratch3 rfl⟩⟩⟩)]

end Scoped

set_option maxHeartbeats 2000000 in
/-- The whole task of the tile at `i`: from its shares and its parts of the results, the parts filled from the input as
    the pattern names. -/
theorem tile_body (d : Dev nD) (i : grid0.Coords) (q : PosShare TreeShare) {X : S12582912.Idx → F .f32} {pat : S192.Idx → BitVec 32} (hT : Table pat)
    (hF : (K (F := F)).Facts) (O : CellTallies nD τ sig (HIx 1)) (W : Waits sig (HIx 1)) (hO : ∀ g, O g none = 0) :
    iprop(levAts (K (F := F)).L (K (F := F)).lev ∗ emp ∗ goPay d i q X pat ∗ scopedBufs (tile d i) ∗ scopedSems0 (tile d i) ∗ owes (tile d i) O W)
      ⊢ wp frame (wpE (defs₀ (F := F)) 𝒱₀ (tile d i) none) Set.univ
          (cc0_k (F := F) i xV (Memref.isWhole_whole _) pV (Memref.isWhole_whole _) cV (Memref.isWhole_whole _) nV (Memref.isWhole_whole _)
            s6 (Memref.isWhole_whole _) s7 (Memref.isWhole_whole _) s8 (Memref.isWhole_whole _) s9 (Memref.isWhole_whole _)
            cc0_scoped0 cc0_scoped1 cc0_scoped2 cc0_scoped3)
          fun _ => iprop(tdPay d i q X pat ∗ scopedBufs (tile d i) ∗ scopedSems0 (tile d i)
            ∗ ∃ W', ⌜∀ p ∈ W', p ∈ W ∨ p.2 = none⌝ ∗ owes (tile d i) O W') := by
  rw [cc0_k_eq_skeleton]; unfold cc0_k_skel
  rw [(K (F := F)).scopedBufs_V hF d ((i 0).castLE hcore0) ((i 1).castLE hsub0), SparseCore.Cfg.scopedSems0_V (Val := Elt F) d ((i 0).castLE hcore0) ((i 1).castLE hsub0),
    ownSems0_tile, ownBufs_tile]
  unfold goPay tdPay
  iintro ⟨#Hlv, -, ⟨Hx, Hp, ⟨%fc, Hc⟩, ⟨%fn, Hn⟩⟩, ⟨⟨%f6, H6⟩, H7, H8, H9, Hbufs⟩, ⟨Hs0, Hs1, Hs2, Hs3, Hsems⟩, HO⟩
  ihave #Hmw := ((K (F := F)).mayWaits_none (thr := tile d i) hO) $$ Hlv
  iapply (step_copy (d := d) (i := i) (O := O) (W := W) (q := q) (src := pV) (dst := s6) (fs := pat) (fd := f6) Finset.univ Finset.univ (Finset.subset_univ _) (Finset.subset_univ _)
      (show 0 < S192.numel by decide)) $$ [Hp H6 Hs0 HO]
  · isplitr; · iexact Hmw
    isplitl [Hp]; · iexact Hp
    isplitl [H6]; · iexact H6
    isplitl [Hs0]; · iexact Hs0
    unfold Owe
    iexists W; isplitr
    · ipureintro; exact fun p hp => .inl hp
    · iexact HO
  iintro ⟨Hp, H6, Hs0, HO⟩
  rw [show ∀ w, s6.view.write (Elt F) f6 w Finset.univ = w from fun w => View.write_whole_univ _ _ _,
    show pV.view.read (Elt F) pat = pat from rfl]
  iterate 12 (iapply (wp_load 𝒱₀ (tile d i) none Set.univ (m := s6) (S := Finset.univ) (Finset.subset_univ _)) $$ H6; iintro H6)
  iapply (Scf.wp_for_bind frame (wpE (defs₀ (F := F)) 𝒱₀ (tile d i) none) Set.univ _ _ _ k0_t1_ok () _
      (fun t _ => Outer d i O W q X t)
      (fun t _ => chunk (load_cg hT (by omega)) (load_cg hT (by omega)) (load_cg hT (by omega))
        (load_ncg hT rfl (by omega)) (load_ncg hT rfl (by omega)) (load_ncg hT rfl (by omega)) (load_ncg hT rfl (by omega)) (load_ncg hT rfl (by omega))
        (load_ncg hT rfl (by omega)) (load_ncg hT rfl (by omega)) (load_ncg hT rfl (by omega)) (load_ncg hT rfl (by omega)) t)) $$ [Hx H7 H8 H9 Hc Hn Hs1 Hs2 Hs3 HO]
  · unfold Outer
    isplitr; · iexact Hmw
    isplitl [Hx]; · iexact Hx
    isplitl [H7]; · iexact H7
    isplitl [H8]; · iexact H8
    isplitl [H9]; · iexact H9
    isplitl [Hc]
    · iexists fc; isplitr
      · ipureintro; exact FilledIn.zero _ _ _ _
      · iexact Hc
    isplitl [Hn]
    · iexists fn; isplitr
      · ipureintro; exact FilledIn.zero _ _ _ _
      · iexact Hn
    isplitl [Hs1]; · iexact Hs1
    isplitl [Hs2]; · iexact Hs2
    isplitl [Hs3] <;> iassumption
  iintro %_ HS
  unfold Outer Owe
  icases HS with ⟨-, Hx, H7, H8, H9, ⟨%gc, %hgc, Hc⟩, ⟨%gn, %hgn, Hn⟩, Hs1, Hs2, Hs3, HO⟩
  rw [Prog.pure_eq_ret, wp_ret]; imodintro
  isplitl [Hx Hp Hc Hn]
  · isplitl [Hx]; · iexact Hx
    isplitl [Hp]; · iexact Hp
    isplitl [Hc]
    · iapply (Entails.of_eq (cg_done (d := d) (i := i) hgc)); iexact Hc
    · iapply (Entails.of_eq (ncg_done (d := d) (i := i) hgn)); iexact Hn
  isplitl [H6 H7 H8 H9 Hbufs]
  · isplitl [H6]; · iexists _; iexact H6
    isplitl [H7]; · iexact H7
    isplitl [H8]; · iexact H8
    isplitl [H9] <;> iassumption
  isplitl [Hs0 Hs1 Hs2 Hs3 Hsems]
  · isplitl [Hs0]; · iexact Hs0
    isplitl [Hs1]; · iexact Hs1
    isplitl [Hs2]; · iexact Hs2
    isplitl [Hs3] <;> iassumption
  iexact HO

end Cert.Proof.OnKernelIdeal

end
-- ==== Proof.KernelIdealLaunch.lean ====
/-
  The launch: the TensorCore's @main lays out the pattern and the flat input, the one SparseCore call deals shares of
  both, and the thirty-two parts of each flat result, to the tiles (`tile_body`), and @main reshapes what comes back.
  The run states both results as functions of the input.
-/
module

public import proofs.«01_k».proof.Proof.KernelIdealTile
public import Idealize.ShloMosaic.Lib.Transfers
public import Idealize.ShloMosaic.Adequacy
public import Idealize.ShloMosaic.Init

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The set-up of the launch theorem -/

abbrev D : Defs nD τ sig (Elt F) (ΛP (F := F)) := Pipeline.defs pcfgs defs₀
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' part of the ghost state. -/
abbrev EH : Emb UH (MT nD τ sig (HIx 1) (Elt F) ℕ UU ℕ) := embL

variable (m : (ℓ : Loc nD τ sig) → Buf (Elt F) ℓ) (ρ : Dev nD → PrngReg)

/-- The pattern as the module's constant lays it out. -/
abbrev pat : S192.Idx → BitVec 32 := fun i => lit0 (S192.rowMajor i)

set_option maxRecDepth 16384 in
set_option maxHeartbeats 4000000 in
/-- The constant holds the places of the two results' elements in a period of the input. -/
theorem lit0_table : ∀ k : Fin 192, (k.val < 48 → (lit0 k).toNat = srcCg k.val) ∧ (48 ≤ k.val → (lit0 k).toNat = srcNcg (k.val - 48)) := by
  decide

theorem table_pat : Table pat := fun j => by
  have h := lit0_table (S192.rowMajor j)
  have e : (S192.rowMajor j).val = (j 0).val := Shape.rowMajor_val_one j
  rw [e] at h
  exact h

/-- The input and the flat input of device `d`. -/
abbrev aLoc (d : Dev nD) : Loc nD τ sig := (SparseCore.T d).loc main_arg0
abbrev oLoc (d : Dev nD) : Loc nD τ sig := (SparseCore.T d).loc main_v2
abbrev rLoc (d : Dev nD) : Loc nD τ sig := (SparseCore.T d).loc main_v3
def flat (A : S16384x256x3.Idx → F .f32) : S12582912.Idx → F .f32 := shapeCast S12582912 A shapeCasts_S16384x256x3_S12582912
abbrev X (d : Dev nD) : S12582912.Idx → F .f32 := flat (m (aLoc d))

/-- The two results, as functions of the input. -/
def out0 (A : S16384x256x3.Idx → F .f32) : S16384x64x3.Idx → F .f32 := shapeCast S16384x64x3 (cgOf (flat A)) shapeCasts_S3145728_S16384x64x3
def out1 (A : S16384x256x3.Idx → F .f32) : S16384x192x3.Idx → F .f32 := shapeCast S16384x192x3 (ncgOf (flat A)) shapeCasts_S9437184_S16384x192x3

/-! ## What the call deals -/

def coordsV (c : Fin (grid0.bound 0)) (s : Fin (grid0.bound 1)) : grid0.Coords :=
  fun | 0 => c | 1 => s | ⟨_ + 2, h⟩ => absurd h (Nat.not_lt.2 (Nat.le_add_left _ _))

/-- The share of an array all tiles read that tile `s` of SparseCore `c` is dealt. -/
def shr (c : Fin 2) (s : Fin 16) : PosShare TreeShare := Transfers.dealOf (Transfers.dealOf fullShare Finset.univ c) Finset.univ s

abbrev goAt (d : Dev nD) (c : Fin 2) (s : Fin 16) : sProp 𝕄 := goPay d (coordsV c s) (shr c s) (X m d) pat
abbrev tdAt (d : Dev nD) (c : Fin 2) (s : Fin 16) : sProp 𝕄 := tdPay d (coordsV c s) (shr c s) (X m d) pat

def P : (K (F := F)).Pay (nD := nD) (Val := Elt F) (Name := ℕ) (U := UU) where
  st := fun q d c => match q with
    | 0 => bigSep Finset.univ fun s : Fin 16 => goAt m d (Fin.cast nCore_zero c) s
  dn := fun q d c => match q with
    | 0 => bigSep Finset.univ fun s : Fin 16 => tdAt m d (Fin.cast nCore_zero c) s
  go := fun q d c s => match q with
    | 0 => goAt m d (Fin.cast nCore_zero c) (Fin.cast nSub_zero s)
  td := fun q d c s => match q with
    | 0 => tdAt m d (Fin.cast nCore_zero c) (Fin.cast nSub_zero s)
  x := fun _ _ => iprop(emp)

instance P_storable : (P (F := F) m).IsStorable where
  st q d c := match q with
    | 0 => BI.Storable.bigSep (ι := (upEmb : UEmb _ 𝕄)) Finset.univ fun s : Fin 16 => goAt m d (Fin.cast nCore_zero c) s
  dn q d c := match q with
    | 0 => BI.Storable.bigSep (ι := (upEmb : UEmb _ 𝕄)) Finset.univ fun s : Fin 16 => tdAt m d (Fin.cast nCore_zero c) s
  go q d c s := match q with
    | 0 => (inferInstance : BI.Storable (upEmb : UEmb _ 𝕄) (goAt m d (Fin.cast nCore_zero c) (Fin.cast nSub_zero s)))
  td q d c s := match q with
    | 0 => (inferInstance : BI.Storable (upEmb : UEmb _ 𝕄) (tdAt m d (Fin.cast nCore_zero c) (Fin.cast nSub_zero s)))

/-! ## The launch theorem's obligations -/

theorem defs₀_vector (c : Fin τ.nSC) (s : Fin τ.nSub) :
    defs₀ (F := F) (.scVector c s) 0 ()
      = SparseCore.onTile hcore0 hsub0 (fun c s => cc0_k (coordsV c s)
          xV (Memref.isWhole_whole _) pV (Memref.isWhole_whole _) cV (Memref.isWhole_whole _) nV (Memref.isWhole_whole _)
          s6 (Memref.isWhole_whole _) s7 (Memref.isWhole_whole _) s8 (Memref.isWhole_whole _) s9 (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (shr ⟨_, hc.1⟩ ⟨_, hc.2⟩) table_pat hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show (bigSep Finset.univ fun s : Fin 16 => goAt m d (Fin.cast nCore_zero c) s) ⊢ |={Set.univ}=> iprop(
      (bigSep Finset.univ fun i : Fin ((K (F := F)).nSub 0) => goAt m d (Fin.cast nCore_zero c) (Fin.cast nSub_zero i))
      ∗ ((bigSep Finset.univ fun i : Fin ((K (F := F)).nSub 0) => tdAt m d (Fin.cast nCore_zero c) (Fin.cast nSub_zero i))
          -∗ bigSep Finset.univ fun s : Fin 16 => tdAt m d (Fin.cast nCore_zero c) s))
  rw [bigSep_tasks (F := F) (fun s => goAt m d (Fin.cast nCore_zero c) s), bigSep_tasks (F := F) (fun s => tdAt m d (Fin.cast nCore_zero c) s)]
  iintro H; imodintro
  isplitl [H]; · iexact H
  iintro H; iexact H

/-! ## The split of the arrays over the tiles -/

section Split

variable {ℓ : Loc nD τ sig}

omit [FloatOps F] in
/-- An array all tiles read, dealt to them in shares. -/
theorem pts_shares (f : Buf (Elt F) ℓ) :
    (ℓ ↦{fullShare} f : sProp 𝕄) = bigSep Finset.univ fun c : Fin 2 => bigSep Finset.univ fun s : Fin 16 => ℓ ↦{shr c s} f := by
  refine (Transfers.pointsTo_deal Finset.univ ⟨0, Finset.mem_univ _⟩ fullShare).trans (bigSep_congr fun c _ => ?_)
  exact Transfers.pointsTo_deal Finset.univ ⟨0, Finset.mem_univ _⟩ _

omit [FloatOps F] in
/-- An array in thirty-two parts, numbered `2 s + c`. -/
theorem pts_parts (R : ℕ → Finset (Idx ℓ)) (hR : ∀ a b, a ≠ b → Disjoint (R a) (R b)) (hc : ∀ j, ∃ w, w < 32 ∧ j ∈ R w) (f : Buf (Elt F) ℓ) :
    (ℓ ↦{fullShare} f : sProp 𝕄)
      = bigSep Finset.univ fun c : Fin 2 => bigSep Finset.univ fun s : Fin 16 => ℓ ↦[R (2 * s.val + c.val)]{fullShare} f := by
  have hin : ∀ c : Fin 2, (bigSep Finset.univ fun s : Fin 16 => (ℓ ↦[R (2 * s.val + c.val)]{fullShare} f : sProp 𝕄))
      = ℓ ↦[Finset.univ.biUnion fun s : Fin 16 => R (2 * s.val + c.val)]{fullShare} f := fun c =>
    (pointsTo_biUnion Finset.univ (ℓ := ℓ) (fun s : Fin 16 => R (2 * s.val + c.val))
      fun s _ s' _ h => hR _ _ fun e => h (Fin.ext (by omega))).symm
  have hcover : (Finset.univ.biUnion fun c : Fin 2 => Finset.univ.biUnion fun s : Fin 16 => R (2 * s.val + c.val)) = Finset.univ := by
    refine Finset.eq_univ_iff_forall.mpr fun j => ?_
    obtain ⟨w, hw, hj⟩ := hc j
    refine Finset.mem_biUnion.mpr ⟨⟨w % 2, Nat.mod_lt _ (by decide)⟩, Finset.mem_univ _, Finset.mem_biUnion.mpr ⟨⟨w / 2, by omega⟩, Finset.mem_univ _, ?_⟩⟩
    rwa [show 2 * (w / 2) + w % 2 = w by omega]
  have hout : (ℓ ↦[Finset.univ.biUnion fun c : Fin 2 => Finset.univ.biUnion fun s : Fin 16 => R (2 * s.val + c.val)]{fullShare} f : sProp 𝕄)
      = bigSep Finset.univ fun c : Fin 2 => ℓ ↦[Finset.univ.biUnion fun s : Fin 16 => R (2 * s.val + c.val)]{fullShare} f :=
    pointsTo_biUnion Finset.univ (ℓ := ℓ) (fun c : Fin 2 => Finset.univ.biUnion fun s : Fin 16 => R (2 * s.val + c.val))
      (fun c _ c' _ h => by
        refine (Finset.disjoint_biUnion_left _ _ _).mpr fun s _ => (Finset.disjoint_biUnion_right _ _ _).mpr fun s' _ => hR _ _ fun e => h (Fin.ext ?_)
        have := c.isLt; have := c'.isLt; omega)
  rw [hcover] at hout
  exact hout.trans (bigSep_congr fun c _ => (hin c).symm)

end Split

omit [FloatOps F] in
theorem pts_c (d : Dev nD) (f : S3145728.Idx → F .f32) :
    (cLoc d ↦{fullShare} f : sProp 𝕄)
      = bigSep Finset.univ fun c : Fin 2 => bigSep Finset.univ fun s : Fin 16 => cLoc d ↦[regC (wid (coordsV c s))]{fullShare} f :=
  pts_parts (ℓ := cLoc d) regC
    (fun a b h => Finset.disjoint_left.mpr fun j ha hb => h ((Finset.mem_filter.mp ha).2.symm.trans (Finset.mem_filter.mp hb).2))
    (fun j => ⟨(j 0).val / 98304, by have : (j 0).val < 3145728 := (j 0).isLt; omega, Finset.mem_filter.mpr ⟨Finset.mem_univ _, rfl⟩⟩) f

omit [FloatOps F] in
theorem pts_n (d : Dev nD) (f : S9437184.Idx → F .f32) :
    (nLoc d ↦{fullShare} f : sProp 𝕄)
      = bigSep Finset.univ fun c : Fin 2 => bigSep Finset.univ fun s : Fin 16 => nLoc d ↦[regN (wid (coordsV c s))]{fullShare} f :=
  pts_parts (ℓ := nLoc d) regN
    (fun a b h => Finset.disjoint_left.mpr fun j ha hb => h ((Finset.mem_filter.mp ha).2.symm.trans (Finset.mem_filter.mp hb).2))
    (fun j => ⟨(j 0).val / 294912, by have : (j 0).val < 9437184 := (j 0).isLt; omega, Finset.mem_filter.mpr ⟨Finset.mem_univ _, rfl⟩⟩) f

/-- What the call takes: the flat input, the pattern and the two flat results, each whole. -/
theorem st0_intro (d : Dev nD) (f : S3145728.Idx → F .f32) (g : S9437184.Idx → F .f32) :
    (iprop((xLoc d ↦{fullShare} X m d) ∗ (pLoc d ↦{fullShare} pat) ∗ (cLoc d ↦{fullShare} f) ∗ nLoc d ↦{fullShare} g) : sProp 𝕄)
      ⊢ bigSep Finset.univ fun c : Fin ((K (F := F)).nCore 0) => (P m).st 0 d c := by
  show _ ⊢ bigSep Finset.univ fun c : Fin ((K (F := F)).nCore 0) => bigSep Finset.univ fun s : Fin 16 => goAt m d (Fin.cast nCore_zero c) s
  rw [bigSep_cores (F := F) (fun c => bigSep Finset.univ fun s : Fin 16 => goAt m d c s), pts_shares (ℓ := xLoc d), pts_shares (ℓ := pLoc d), pts_c, pts_n,
    ← bigSep_sep', ← bigSep_sep', ← bigSep_sep']
  refine bigSep_mono fun c _ => ?_
  rw [← bigSep_sep', ← bigSep_sep', ← bigSep_sep']
  refine bigSep_mono fun s _ => ?_
  show _ ⊢ goPay d (coordsV c s) (shr c s) (X m d) pat
  unfold goPay
  show iprop(_ ∗ _ ∗ _ ∗ _) ⊢ _
  iintro ⟨Hx, Hp, Hc, Hn⟩
  isplitl [Hx]; · iexact Hx
  isplitl [Hp]; · iexact Hp
  isplitl [Hc]; · iexists f; iexact Hc
  iexists g; iexact Hn

/-- What it hands back: the same, the two flat results filled. -/
theorem dn0_elim (d : Dev nD) :
    (bigSep Finset.univ fun c : Fin ((K (F := F)).nCore 0) => (P m).dn 0 d c)
      = (iprop((xLoc d ↦{fullShare} X m d) ∗ (pLoc d ↦{fullShare} pat) ∗ (cLoc d ↦{fullShare} cgOf (X m d)) ∗ nLoc d ↦{fullShare} ncgOf (X m d)) : sProp 𝕄) := by
  show (bigSep Finset.univ fun c : Fin ((K (F := F)).nCore 0) => bigSep Finset.univ fun s : Fin 16 => tdAt m d (Fin.cast nCore_zero c) s) = _
  rw [bigSep_cores (F := F) (fun c => bigSep Finset.univ fun s : Fin 16 => tdAt m d c s), pts_shares (ℓ := xLoc d), pts_shares (ℓ := pLoc d), pts_c, pts_n,
    ← bigSep_sep', ← bigSep_sep', ← bigSep_sep']
  refine bigSep_congr fun c _ => ?_
  rw [← bigSep_sep', ← bigSep_sep', ← bigSep_sep']
  rfl

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev p' : DevRef τ sig := Proc.devRef .tc (main_c : Ref sig .tc)
abbrev x' : DevRef τ sig := Proc.devRef .tc (main_v0 : Ref sig .tc)
abbrev c' : DevRef τ sig := Proc.devRef .tc (main_v1_0 : Ref sig .tc)
abbrev n' : DevRef τ sig := Proc.devRef .tc (main_v1_1 : Ref sig .tc)
abbrev o' : DevRef τ sig := Proc.devRef .tc (main_v2 : Ref sig .tc)
abbrev r' : DevRef τ sig := Proc.devRef .tc (main_v3 : Ref sig .tc)

abbrev op1 : HloOp τ sig (Elt F) := StableHlo.nullary main_c (fun i => lit0 (S192.rowMajor i))
abbrev op2 : HloOp τ sig (Elt F) := StableHlo.reshape main_arg0 main_v0 (rfl : (.f32 : EltTy) = .f32) shapeCasts_S16384x256x3_S12582912
abbrev op3 : HloOp τ sig (Elt F) := StableHlo.reshape main_v1_0 main_v2 (rfl : (.f32 : EltTy) = .f32) shapeCasts_S3145728_S16384x64x3
abbrev op4 : HloOp τ sig (Elt F) := StableHlo.reshape main_v1_1 main_v3 (rfl : (.f32 : EltTy) = .f32) shapeCasts_S9437184_S16384x192x3

/-- The TensorCore's arrays, all unscoped. -/
abbrev S7 : Finset (DevRef τ sig) := {a', p', x', c', n', o', r'}

omit [FloatOps F] in
theorem held_S7 (d : Dev nD) (W : Valuation τ sig (Elt F)) :
    (held (SparseCore.T d) S7 W : sProp 𝕄) = iprop((aLoc d ↦{fullShare} W a') ∗ (pLoc d ↦{fullShare} W p') ∗ (xLoc d ↦{fullShare} W x')
      ∗ (cLoc d ↦{fullShare} W c') ∗ (nLoc d ↦{fullShare} W n') ∗ (oLoc d ↦{fullShare} W o') ∗ rLoc d ↦{fullShare} W r') := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (pLoc d ↦{fullShare} W main_c) ∗ (xLoc d ↦{fullShare} W main_v0)
      ∗ (cLoc d ↦{fullShare} W main_v1_0) ∗ (nLoc d ↦{fullShare} W main_v1_1) ∗ (oLoc d ↦{fullShare} W main_v2) ∗ rLoc d ↦{fullShare} W main_v3) := by
  unfold unscopedBufs
  rw [show (Finset.univ.filter fun b : Ref sig .tc => ¬ b.isScoped) = {main_arg0, main_c, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The launch valuation; before the call; after it, the two flat results filled; at the end. -/
def V0 (d : Dev nD) : Valuation τ sig (Elt F) := fun b => m (d, b)
def V2 (d : Dev nD) : Valuation τ sig (Elt F) := (op2 (F := F)).result ((op1 (F := F)).result (V0 m d))
def V3 (d : Dev nD) : Valuation τ sig (Elt F) := Function.update (Function.update (V2 m d) c' (cgOf (X m d))) n' (ncgOf (X m d))
def V5 (d : Dev nD) : Valuation τ sig (Elt F) := (op4 (F := F)).result ((op3 (F := F)).result (V3 m d))

theorem unscoped_held (d : Dev nD) : (unscopedBufs d (fun b => m ((SparseCore.T d).loc b)) : sProp 𝕄) = held (SparseCore.T d) S7 (V0 m d) := by
  rw [unscopedBufs_eq, held_S7]; rfl

theorem V2_a (d : Dev nD) : V2 m d a' = m (aLoc d) := by
  unfold V2
  rw [StableHlo.reshape_result_ne' _ _ _ _ _ (by decide), StableHlo.nullary_result_ne' _ _ _ (by decide)]; rfl
theorem V2_p (d : Dev nD) : V2 m d p' = pat := by
  unfold V2
  rw [StableHlo.reshape_result_ne' _ _ _ _ _ (by decide), StableHlo.nullary_result']; rfl
theorem V2_x (d : Dev nD) : V2 m d x' = X m d := by
  unfold V2
  rw [StableHlo.reshape_result', StableHlo.nullary_result_ne' _ _ _ (by decide)]; rfl

theorem V3_c (d : Dev nD) : V3 m d c' = cgOf (X m d) := (Function.update_of_ne (show c' ≠ n' by decide) _ _).trans (Function.update_self _ _ _)
theorem V3_n (d : Dev nD) : V3 m d n' = ncgOf (X m d) := Function.update_self _ _ _
theorem V3_of (d : Dev nD) {b : DevRef τ sig} (h : b ≠ c') (h' : b ≠ n') : V3 m d b = V2 m d b :=
  (Function.update_of_ne h' _ _).trans (Function.update_of_ne h _ _)

theorem V5_a (d : Dev nD) : V5 m d a' = m (aLoc d) := by
  unfold V5
  rw [StableHlo.reshape_result_ne' _ _ _ _ _ (by decide), StableHlo.reshape_result_ne' _ _ _ _ _ (by decide), V3_of m d (by decide) (by decide), V2_a]
theorem V5_o (d : Dev nD) : V5 m d o' = out0 (m (aLoc d)) := by
  unfold V5
  rw [StableHlo.reshape_result_ne' _ _ _ _ _ (by decide), StableHlo.reshape_result', V3_c]; rfl
theorem V5_r (d : Dev nD) : V5 m d r' = out1 (m (aLoc d)) := by
  unfold V5
  rw [StableHlo.reshape_result', StableHlo.reshape_result_ne' _ _ _ _ _ (by decide), V3_n]; rfl

theorem hop1 : (op1 (F := F)).bufs ⊆ S7 := show ({p'} : Finset (DevRef τ sig)) ⊆ S7 by decide
theorem hop2 : (op2 (F := F)).bufs ⊆ S7 := show ({a', x'} : Finset (DevRef τ sig)) ⊆ S7 by decide
theorem hop3 : (op3 (F := F)).bufs ⊆ S7 := show ({c', o'} : Finset (DevRef τ sig)) ⊆ S7 by decide
theorem hop4 : (op4 (F := F)).bufs ⊆ S7 := show ({n', r'} : Finset (DevRef τ sig)) ⊆ S7 by decide

/-- The arrays before the call. -/
theorem held_V2 (d : Dev nD) :
    (held (SparseCore.T d) S7 ((op2 (F := F)).result ((op1 (F := F)).result (V0 m d))) : sProp 𝕄) = iprop((aLoc d ↦{fullShare} m (aLoc d)) ∗ (pLoc d ↦{fullShare} pat) ∗ (xLoc d ↦{fullShare} X m d)
      ∗ (cLoc d ↦{fullShare} V2 m d c') ∗ (nLoc d ↦{fullShare} V2 m d n') ∗ (oLoc d ↦{fullShare} V2 m d o') ∗ rLoc d ↦{fullShare} V2 m d r') := by
  show held (SparseCore.T d) S7 (V2 m d) = _
  rw [held_S7, V2_a, V2_p, V2_x]

/-- The arrays after it. -/
theorem held_V3 (d : Dev nD) :
    (held (SparseCore.T d) S7 (V3 m d) : sProp 𝕄) = iprop((aLoc d ↦{fullShare} m (aLoc d)) ∗ (pLoc d ↦{fullShare} pat) ∗ (xLoc d ↦{fullShare} X m d)
      ∗ (cLoc d ↦{fullShare} cgOf (X m d)) ∗ (nLoc d ↦{fullShare} ncgOf (X m d)) ∗ (oLoc d ↦{fullShare} V2 m d o') ∗ rLoc d ↦{fullShare} V2 m d r') := by
  rw [held_S7, V3_c, V3_n, V3_of m d (b := a') (by decide) (by decide), V3_of m d (b := p') (by decide) (by decide), V3_of m d (b := x') (by decide) (by decide),
    V3_of m d (b := o') (by decide) (by decide), V3_of m d (b := r') (by decide) (by decide), V2_a, V2_p, V2_x]

/-- What @main leaves the claim: the input at its launch contents and the two results. -/
def FIN (d : Dev nD) : sProp 𝕄 :=
  iprop((aLoc d ↦{fullShare} m (aLoc d)) ∗ (oLoc d ↦{fullShare} out0 (m (aLoc d))) ∗ rLoc d ↦{fullShare} out1 (m (aLoc d)))

theorem held_V5 (d : Dev nD) :
    (held (SparseCore.T d) S7 ((op4 (F := F)).result ((op3 (F := F)).result (V3 m d))) : sProp 𝕄) ⊢ FIN m d := by
  show held (SparseCore.T d) S7 (V5 m d) ⊢ _
  rw [held_S7, V5_a, V5_o, V5_r]
  unfold FIN
  iintro ⟨Ha, -, -, -, -, Ho, Hr⟩
  isplitl [Ha]; · iexact Ha
  isplitl [Ho]; · iexact Ho
  iexact Hr

set_option maxHeartbeats 2000000 in
/-- @main on device `d`'s TensorCore: the pattern and the flat input laid out, the call, the two results reshaped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S7) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S7) hop2 (V := (op1 (F := F)).result (V0 m d))) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha, Hp, Hx, Hc, Hn, Ho, Hr⟩
  iapply ((K (F := F)).wp_run (D (F := F)) 𝒱 (EH := EH) (P := P m) κ d 0) $$ [Hst Ha Hp Hx Hc Hn Ho Hr Hb Hts]
  isplitr; · iexact Hctx
  isplitl [Hst]; · iexact Hst
  isplitl [Hp Hx Hc Hn]
  · iapply (st0_intro m d (V2 m d c') (V2 m d n'))
    isplitl [Hx]; · iexact Hx
    isplitl [Hp]; · iexact Hp
    isplitl [Hc]; · iexact Hc
    iexact Hn
  iintro ⟨Hst, Hdn⟩
  ihave Hdn' := (Entails.of_eq (dn0_elim m d)) $$ Hdn
  icases Hdn' with ⟨Hx, Hp, Hc, Hn⟩
  iapply (wp_hlo_within 𝒱 (SparseCore.T d) none Set.univ (op := op3) (S := S7) hop3 (V := V3 m d)) $$ [Hb Ha Hp Hx Hc Hn Ho Hr]
  · isplitl [Hb]; · iexact Hb
    rw [held_V3]
    isplitl [Ha]; · iexact Ha
    isplitl [Hp]; · iexact Hp
    isplitl [Hx]; · iexact Hx
    isplitl [Hc]; · iexact Hc
    isplitl [Hn]; · iexact Hn
    isplitl [Ho]; · iexact Ho
    iexact Hr
  iintro ⟨Hb, Hheld⟩
  rw [wp_ret]; imodintro
  iapply (wp_hlo_within 𝒱 (SparseCore.T d) none Set.univ (op := op4) (S := S7) hop4 (V := (op3 (F := F)).result (V3 m d))) $$ [Hb Hheld]
  · isplitl [Hb]; · iexact Hb
    iexact Hheld
  iintro ⟨Hb, Hheld⟩
  ihave Hf := (held_V5 (F := F) m d) $$ Hheld
  rw [wp_ret]; imodintro; imodintro
  isplitl [Hst]; · iexact Hst
  isplitr [Hb Hts]
  · iexact Hf
  isplitl [Hb] <;> iassumption

/-- What the claims read of device `d`'s memory at the end. -/
def fq (d : Dev nD) (s' : Phys nD τ sig (Elt F)) : Prop :=
  s'.mem.mem (aLoc d) = m (aLoc d) ∧ s'.mem.mem (oLoc d) = out0 (m (aLoc d)) ∧ s'.mem.mem (rLoc d) = out1 (m (aLoc d))

theorem hfin (d : Dev nD) (s' : Phys nD τ sig (Elt F)) : iprop(FIN m d ∗ SI s') ⊢ (⌜fq m d s'⌝ : sProp 𝕄) := by
  unfold FIN
  iintro ⟨⟨Ha, Ho, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := oLoc d) (I := Finset.univ) (q := fullShare) (f := out0 (m (aLoc d))))) $$ [HSI Ho]
  · isplitl [HSI] <;> iassumption
  icases H with ⟨%h2, HSI, -⟩
  ihave H := (SI_pointsTo_agree (st := s') (ℓ := rLoc d) (I := Finset.univ) (q := fullShare) (f := out1 (m (aLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ d : Dev nD, r.2.mem (aLoc d) = m (aLoc d) ∧ r.2.mem (oLoc d) = out0 (m (aLoc d)) ∧ r.2.mem (rLoc d) = out1 (m (aLoc d)))
    ∧ r.2.sem = fun _ => 0

/-- Every weakly fair execution ends with the input unchanged, the two results at their values and the counters at
    zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.OnKernelIdeal

end
-- ==== Proof.Take.lean ====
/-
  The reference's take read at an index: rows of a `[B, N, C]` array taken along its middle axis at a constant list of
  row numbers. The printed form wraps negative numbers, masks those out of range and gathers; with every number in range
  it reads the named row.
-/
module

public import Idealize.ShloMosaic.Lib.StableHlo.Predicate
public import Idealize.ShloMosaic.Lib.ReduceAll

@[expose] public section

noncomputable section

namespace Cert.Proof

open Idealize.ShloMosaic Idealize.ShloMosaic.StableHlo Idealize.ShloMosaic.StableHlo.Predicate

/-- The dimension numbers of a take along the middle axis. -/
abbrev midDims (B N C n : ℕ) (wf : GatherDims.WF ⟨3, ![B, N, C]⟩ ⟨2, ![n, 1]⟩ ⟨3, ![B, n, C]⟩ [0, 2] [1] [] [1] [] 1 ![B, 1, C]) :
    GatherDims ⟨3, ![B, N, C]⟩ ⟨2, ![n, 1]⟩ ⟨3, ![B, n, C]⟩ where
  offsetDims := [0, 2]
  collapsedSliceDims := [1]
  operandBatchingDims := []
  startIndicesBatchingDims := []
  startIndexMap := [1]
  indexVectorDim := 1
  sliceSizes := ![B, 1, C]
  wf := wf

/-- Position `(k, 0)` of a column. -/
abbrev colIdx {n : ℕ} (k : Fin n) : (⟨2, ![n, 1]⟩ : Shape).Idx :=
  fun a => match a with | ⟨0, _⟩ => k | ⟨1, _⟩ => ⟨0, Nat.one_pos⟩

/-- Position `k` of a list. -/
abbrev rowIdx {n : ℕ} (k : Fin n) : (⟨1, ![n]⟩ : Shape).Idx :=
  fun a => match a with | ⟨0, _⟩ => k

/-- The gather read at `y`: the operand's element with `y`'s first and last coordinates, in the row its start index
    names. -/
theorem gather_mid {α : Type} {B N C n : ℕ} (wf : GatherDims.WF ⟨3, ![B, N, C]⟩ ⟨2, ![n, 1]⟩ ⟨3, ![B, n, C]⟩ [0, 2] [1] [] [1] [] 1 ![B, 1, C])
    (x : (⟨3, ![B, N, C]⟩ : Shape).Idx → α) (idx : IVec ⟨2, ![n, 1]⟩ 32) (y : (⟨3, ![B, n, C]⟩ : Shape).Idx)
    (i : (⟨3, ![B, N, C]⟩ : Shape).Idx) (h0 : (i 0).val = (y 0).val) (h1 : ((i 1).val : ℤ) = (idx (colIdx (n := n) (y 1))).toInt)
    (h2 : (i 2).val = (y 2).val) : Host.gather (midDims B N C n wf) x idx y = x i := by
  unfold Host.gather
  congr 1
  funext a
  refine Fin.ext ?_
  show (midDims B N C n wf).start y idx a + (midDims B N C n wf).batchCoord y a + (midDims B N C n wf).offCoord y a = _
  rw [GatherDims.batchCoord_eq_zero _ _ _ List.not_mem_nil, Nat.add_zero]
  match a with
  | ⟨0, _⟩ =>
    show (midDims B N C n wf).start y idx (0 : Fin 3) + (midDims B N C n wf).offCoord y (0 : Fin 3) = _
    rw [show (midDims B N C n wf).start y idx 0 = 0 from dif_neg (show (0 : Fin 3) ∉ [(1 : Fin 3)] by decide), Nat.zero_add]
    exact h0.symm
  | ⟨2, _⟩ =>
    show (midDims B N C n wf).start y idx (2 : Fin 3) + (midDims B N C n wf).offCoord y (2 : Fin 3) = _
    rw [show (midDims B N C n wf).start y idx 2 = 0 from dif_neg (show (2 : Fin 3) ∉ [(1 : Fin 3)] by decide), Nat.zero_add]
    exact h2.symm
  | ⟨1, _⟩ =>
    rw [GatherDims.offCoord_eq_zero _ _ _ (fun h => ((GatherDims.mem_sKept _ _).mp h).1 (List.mem_singleton.mpr rfl)), Nat.add_zero]
    unfold GatherDims.start
    refine (dif_pos (show (1 : Fin 3) ∈ [(1 : Fin 3)] from List.mem_singleton.mpr rfl)).trans ?_
    have hsi : (midDims B N C n wf).siIdx y ⟨List.idxOf (1 : Fin 3) (midDims B N C n wf).startIndexMap,
        List.idxOf_lt_length_iff.2 (List.mem_singleton.mpr rfl)⟩ = colIdx (n := n) (y 1) := by
      funext b; refine Fin.ext ?_
      match b with
      | ⟨0, _⟩ => rfl
      | ⟨1, _⟩ => rfl
    have hb : (i 1).val < N := (i 1).isLt
    show min (idx ((midDims B N C n wf).siIdx y ⟨List.idxOf (1 : Fin 3) (midDims B N C n wf).startIndexMap,
      List.idxOf_lt_length_iff.2 (List.mem_singleton.mpr rfl)⟩)).toInt.toNat (N - 1) = (i 1).val
    rw [hsi, ← h1]
    omega

/-- A list laid out as a column reads its own elements. -/
theorem col_read {α : Type} {n : ℕ} (h : (⟨1, ![n]⟩ : Shape).BroadcastsInDim ⟨2, ![n, 1]⟩ ![0]) (x : (⟨1, ![n]⟩ : Shape).Idx → α)
    (p : (⟨2, ![n, 1]⟩ : Shape).Idx) (q : (⟨1, ![n]⟩ : Shape).Idx) (e : (q 0).val = (p 0).val) : broadcastInDim ⟨2, ![n, 1]⟩ ![0] h x p = x q := by
  unfold broadcastInDim
  congr 1
  funext a
  obtain rfl : a = 0 := Subsingleton.elim _ _
  refine Fin.ext ?_
  have hq : (q 0).val < n := (q 0).isLt
  split
  · next h1 =>
    have h1' : n = 1 := h1
    show 0 = (q 0).val
    omega
  · exact e.symm

/-- A row number in range is not wrapped. -/
theorem wrap_id {n : ℕ} (hb hb' : (⟨0, ![]⟩ : Shape).BroadcastsInDim ⟨1, ![n]⟩ ![]) (N : BitVec 32) (t : IVec ⟨1, ![n]⟩ 32) (ht : ∀ k, (t k).toNat < 2 ^ 31) :
    select (cmpi .slt t (broadcastInDim ⟨1, ![n]⟩ ![] hb (constantI ⟨0, ![]⟩ 32 0#32))) (addi t (broadcastInDim ⟨1, ![n]⟩ ![] hb' (constantI ⟨0, ![]⟩ 32 N))) t = t := by
  funext k
  show Scalar.select (IntOp.cmpi .slt (t k) 0#32) _ (t k) = t k
  unfold Scalar.select
  rw [if_neg fun e => ?_]
  have := (slt_iff_toNat (ht k) (by decide)).mp e
  simp at this

/-- The whole take read at `y`, every row number `t k` being in range. -/
theorem take_read {α : Type} {B N C n : ℕ} (t : IVec ⟨1, ![n]⟩ 32) (N' M : BitVec 32) (hM : M.toNat < 2 ^ 31) (ht : ∀ k, (t k).toNat ≤ M.toNat)
    (hb hb' : (⟨0, ![]⟩ : Shape).BroadcastsInDim ⟨1, ![n]⟩ ![]) (hc : (⟨1, ![n]⟩ : Shape).BroadcastsInDim ⟨2, ![n, 1]⟩ ![0])
    (hz : (⟨0, ![]⟩ : Shape).BroadcastsInDim ⟨2, ![n, 1]⟩ ![]) (hm : (⟨1, ![1]⟩ : Shape).BroadcastsInDim ⟨2, ![1, 1]⟩ ![1])
    (hm' : (⟨2, ![1, 1]⟩ : Shape).BroadcastsInDim ⟨2, ![n, 1]⟩ ![0, 1]) (hr : (⟨2, ![n, 1]⟩ : Shape).ReducesTo [1] ⟨1, ![n]⟩) (hu : 0 < (⟨0, ![]⟩ : Shape).numel)
    (ho : (⟨1, ![n]⟩ : Shape).BroadcastsInDim ⟨3, ![B, n, C]⟩ ![1])
    (wf : GatherDims.WF ⟨3, ![B, N, C]⟩ ⟨2, ![n, 1]⟩ ⟨3, ![B, n, C]⟩ [0, 2] [1] [] [1] [] 1 ![B, 1, C])
    (x : (⟨3, ![B, N, C]⟩ : Shape).Idx → α) (z : (⟨3, ![B, n, C]⟩ : Shape).Idx → α) (y : (⟨3, ![B, n, C]⟩ : Shape).Idx)
    (i : (⟨3, ![B, N, C]⟩ : Shape).Idx) (q : (⟨1, ![n]⟩ : Shape).Idx) (hq : (q 0).val = (y 1).val)
    (h0 : (i 0).val = (y 0).val) (h1 : (i 1).val = (t q).toNat) (h2 : (i 2).val = (y 2).val) :
    select (broadcastInDim ⟨3, ![B, n, C]⟩ ![1] ho (Host.reduce IntOp.andi
        (andi (cmpi .sge (broadcastInDim ⟨2, ![n, 1]⟩ ![0] hc (select (cmpi .slt t (broadcastInDim ⟨1, ![n]⟩ ![] hb (constantI ⟨0, ![]⟩ 32 0#32)))
              (addi t (broadcastInDim ⟨1, ![n]⟩ ![] hb' (constantI ⟨0, ![]⟩ 32 N'))) t))
            (broadcastInDim ⟨2, ![n, 1]⟩ ![] hz (constantI ⟨0, ![]⟩ 32 0#32)))
          (cmpi .sle (broadcastInDim ⟨2, ![n, 1]⟩ ![0] hc (select (cmpi .slt t (broadcastInDim ⟨1, ![n]⟩ ![] hb (constantI ⟨0, ![]⟩ 32 0#32)))
              (addi t (broadcastInDim ⟨1, ![n]⟩ ![] hb' (constantI ⟨0, ![]⟩ 32 N'))) t))
            (broadcastInDim ⟨2, ![n, 1]⟩ ![0, 1] hm' (broadcastInDim ⟨2, ![1, 1]⟩ ![1] hm (constantI ⟨1, ![1]⟩ 32 M)))))
        (constantI ⟨0, ![]⟩ 1 1#1) hr hu))
      (Host.gather (midDims B N C n wf) x (broadcastInDim ⟨2, ![n, 1]⟩ ![0] hc (select (cmpi .slt t (broadcastInDim ⟨1, ![n]⟩ ![] hb (constantI ⟨0, ![]⟩ 32 0#32)))
              (addi t (broadcastInDim ⟨1, ![n]⟩ ![] hb' (constantI ⟨0, ![]⟩ 32 N'))) t))) z y = x i := by
  have ht' : ∀ k, (t k).toNat < 2 ^ 31 := fun k => (ht k).trans_lt hM
  rw [wrap_id hb hb' N' t ht']
  have hcol : ∀ p : (⟨2, ![n, 1]⟩ : Shape).Idx, broadcastInDim ⟨2, ![n, 1]⟩ ![0] hc t p = t (rowIdx (p 0)) :=
    fun p => col_read hc t p _ rfl
  have hmask : ∀ p : (⟨2, ![n, 1]⟩ : Shape).Idx,
      andi (cmpi .sge (broadcastInDim ⟨2, ![n, 1]⟩ ![0] hc t) (broadcastInDim ⟨2, ![n, 1]⟩ ![] hz (constantI ⟨0, ![]⟩ 32 0#32)))
        (cmpi .sle (broadcastInDim ⟨2, ![n, 1]⟩ ![0] hc t) (broadcastInDim ⟨2, ![n, 1]⟩ ![0, 1] hm' (broadcastInDim ⟨2, ![1, 1]⟩ ![1] hm (constantI ⟨1, ![1]⟩ 32 M)))) p = 1#1 := by
    intro p
    show IntOp.andi (IntOp.cmpi .sge (broadcastInDim ⟨2, ![n, 1]⟩ ![0] hc t p) 0#32) (IntOp.cmpi .sle (broadcastInDim ⟨2, ![n, 1]⟩ ![0] hc t p) M) = 1#1
    rw [hcol, (sge_iff_toNat (ht' _) (by decide)).mpr (Nat.zero_le _), (sle_iff_toNat (ht' _) hM).mpr (ht _)]
    decide
  show Scalar.select (Host.reduce IntOp.andi _ _ hr hu _) (Host.gather (midDims B N C n wf) x _ y) (z y) = x i
  rw [Host.reduce_andi_one _ _ hr hu _ rfl hmask]
  show Host.gather (midDims B N C n wf) x _ y = x i
  refine gather_mid wf x _ y i h0 ?_ h2
  rw [col_read hc t _ q hq, toInt_eq_toNat_of_lt (ht' _), h1]

end Cert.Proof

end
-- ==== Proof.Agree.lean ====
/-
  The kernel's two results are the reference's: each element of either is the input's element in the same batch and
  channel, in the row the reference's list names.
-/
module

public import proofs.«01_k».proof.Proof.KernelIdealLaunch
public import proofs.«01_k».proof.Proof.Take
public import proofs.«01_k».proof.Proof.Gen.ReferenceIdeal.Run

@[expose] public section

noncomputable section

namespace Cert.Proof

open Cert.ReferenceIdeal Cert.ReferenceIdeal.Gen

open Idealize.ShloMosaic Idealize.ShloMosaic.TcCoe Idealize.ShloMosaic.StableHlo Idealize.SL.Sem

variable {F : FTy → Type} [FloatOps F]

/-- Position `(b, r, k)` of the input. -/
abbrev inIdx (b : Fin 16384) (r : Fin 256) (k : Fin 3) : S16384x256x3.Idx :=
  fun a => match a with | ⟨0, _⟩ => b | ⟨1, _⟩ => r | ⟨2, _⟩ => k

set_option maxRecDepth 16384 in
set_option maxHeartbeats 4000000 in
/-- The reference's first list: every fourth row. -/
theorem lit0_val : ∀ k : Fin 64, (lit0 k).toNat = 4 * k.val := by decide

set_option maxRecDepth 16384 in
set_option maxHeartbeats 4000000 in
/-- The reference's second list: the other three rows of every four. -/
theorem lit1_val : ∀ k : Fin 192, (lit1 k).toNat = 4 * (k.val / 3) + 1 + k.val % 3 := by decide

/-- The rows of the first list, as the reference's program spells it. -/
abbrev rows0 : IVec S64 32 := fun i => lit0 (S64.rowMajor i)
/-- The rows of the second list. -/
abbrev rows1 : IVec S192 32 := fun i => lit1 (S192.rowMajor i)

theorem rows0_val (i : S64.Idx) : (rows0 i).toNat = 4 * (i 0).val := by
  rw [← Shape.rowMajor_val_one i]; exact lit0_val _

theorem rows1_val (i : S192.Idx) : (rows1 i).toNat = 4 * ((i 0).val / 3) + 1 + (i 0).val % 3 := by
  rw [← Shape.rowMajor_val_one i]; exact lit1_val _

/-- The input laid out flat, read at the row-major position of `i`. -/
theorem flat_read (A : S16384x256x3.Idx → F .f32) (j : Cert.KernelIdeal.S12582912.Idx) (i : S16384x256x3.Idx)
    (h : (j 0).val = ((i 0).val * 256 + (i 1).val) * 3 + (i 2).val) : OnKernelIdeal.flat A j = A i := by
  refine congrArg A (Shape.reshapeEquiv_eq_of_rowMajor _ ?_)
  rw [Shape.rowMajor_val_one, h]
  exact Shape.rowMajor_val_three i

/-- The kernel's first result at `y`. -/
theorem out0_read (A : S16384x256x3.Idx → F .f32) (y : S16384x64x3.Idx) (i : S16384x256x3.Idx)
    (h0 : (i 0).val = (y 0).val) (h1 : (i 1).val = 4 * (y 1).val) (h2 : (i 2).val = (y 2).val) : OnKernelIdeal.out0 A y = A i := by
  have b0 : (y 0).val < 16384 := (y 0).isLt
  have b1 : (y 1).val < 64 := (y 1).isLt
  have b2 : (y 2).val < 3 := (y 2).isLt
  refine flat_read A _ i ?_
  have e : ((Shape.reshapeEquiv Cert.KernelIdeal.Gen.shapeCasts_S3145728_S16384x64x3 y) 0).val = ((y 0).val * 64 + (y 1).val) * 3 + (y 2).val := by
    rw [← Shape.rowMajor_val_one, Shape.rowMajor_reshapeEquiv]
    exact Shape.rowMajor_val_three y
  show srcCg _ % 12582912 = _
  rw [e, h0, h1, h2]
  unfold srcCg
  omega

/-- The kernel's second result at `y`. -/
theorem out1_read (A : S16384x256x3.Idx → F .f32) (y : S16384x192x3.Idx) (i : S16384x256x3.Idx)
    (h0 : (i 0).val = (y 0).val) (h1 : (i 1).val = 4 * ((y 1).val / 3) + 1 + (y 1).val % 3) (h2 : (i 2).val = (y 2).val) :
    OnKernelIdeal.out1 A y = A i := by
  have b0 : (y 0).val < 16384 := (y 0).isLt
  have b1 : (y 1).val < 192 := (y 1).isLt
  have b2 : (y 2).val < 3 := (y 2).isLt
  refine flat_read A _ i ?_
  have e : ((Shape.reshapeEquiv Cert.KernelIdeal.Gen.shapeCasts_S9437184_S16384x192x3 y) 0).val = ((y 0).val * 192 + (y 1).val) * 3 + (y 2).val := by
    rw [← Shape.rowMajor_val_one, Shape.rowMajor_reshapeEquiv]
    exact Shape.rowMajor_val_three y
  show srcNcg _ % 12582912 = _
  rw [e, h0, h1, h2]
  unfold srcNcg
  omega

/-- The reference runs, and its two results are the kernel's functions of the input. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = OnKernelIdeal.out0 (m ((c.tc : Thread nD τ).loc main_arg0)) ∧
      r.2.mem ((c.tc : Thread nD τ).loc main_v1) = OnKernelIdeal.out1 (m ((c.tc : Thread nD τ).loc main_arg0)) ∧
      r.2.mem ((c.tc : Thread nD τ).loc main_arg0) = m ((c.tc : Thread nD τ).loc main_arg0) := by
  refine (θ_run defs _ _).mono (fun r h c => ⟨(h c).1.trans (funext fun y => ?_), (h c).2.1.trans (funext fun y => ?_), (h c).2.2⟩) (Value.run m ρ)
  · have b1 : (y 1).val < 64 := (y 1).isLt
    rw [out0_read _ y (inIdx (y 0) ⟨4 * (y 1).val, by omega⟩ (y 2)) rfl rfl rfl]
    exact take_read rows0 256#32 255#32 (by decide)
      (fun k => by have hk : (k 0).val < 64 := (k 0).isLt
                   rw [rows0_val]; show _ ≤ 255; omega)
      _ _ _ _ _ _ _ _ _ _ _ _ y _ (rowIdx (n := 64) (y 1)) rfl rfl (rows0_val (rowIdx (n := 64) (y 1))).symm rfl
  · have b1 : (y 1).val < 192 := (y 1).isLt
    rw [out1_read _ y (inIdx (y 0) ⟨4 * ((y 1).val / 3) + 1 + (y 1).val % 3, by omega⟩ (y 2)) rfl rfl rfl]
    exact take_read rows1 256#32 255#32 (by decide)
      (fun k => by have hk : (k 0).val < 192 := (k 0).isLt
                   rw [rows1_val]; show _ ≤ 255; omega)
      _ _ _ _ _ _ _ _ _ _ _ _ y _ (rowIdx (n := 192) (y 1)) rfl rfl (rows1_val (rowIdx (n := 192) (y 1))).symm rfl

end Cert.Proof

end
-- ==== Proof.lean ====
/-
  The proof of `Cert.Claim`: the kernel, on words and on ideals, and the reference terminate with the input unchanged and
  every semaphore at zero, and on ideals the kernel's two results are the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelLaunch
public import proofs.«01_k».proof.Proof.Agree
public import Idealize.ShloMosaic.Lib.Quiescent

@[expose] public section

noncomputable section

namespace Cert.Proof

open Idealize.ShloMosaic Idealize.SL.Sem

/-- The kernel on words terminates, its input unchanged and every semaphore back at zero. -/
theorem frame_words : Cert.quiescent_Kernel := fun m ρ _ =>
  (θ_run Cert.Kernel.defs _ _).mono (fun _ h => ⟨fun c => (h.1 c).1, h.2⟩) (OnKernel.run_main (F := Bits) m ρ)

/-- So does the kernel on ideals. -/
theorem frame_ideals : Cert.quiescent_KernelIdeal := fun m ρ _ =>
  (θ_run Cert.KernelIdeal.defs _ _).mono (fun _ h => ⟨fun c => (h.1 c).1, h.2⟩) (OnKernelIdeal.run_main (F := Ideal) m ρ)

/-- So does the reference, which declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩) (ref_run (F := Ideal) m ρ)

/-- From equal inputs the kernel and the reference end with equal results, both of them: the functions `out0` and `out1`
    of the input. -/
theorem results_agree : Cert.algebraic_KernelIdeal_ReferenceIdeal := by
  intro m ρ m' ρ' _ hagree
  refine ⟨fun c => OnKernelIdeal.out0 (F := Ideal) (m (OnKernelIdeal.aLoc c)), fun c => OnKernelIdeal.out1 (F := Ideal) (m (OnKernelIdeal.aLoc c)), ?_, ?_⟩
  · exact (θ_run Cert.KernelIdeal.defs _ _).mono (fun _ h c => ⟨(h.1 c).2.1, (h.1 c).2.2, (h.1 c).1⟩) (OnKernelIdeal.run_main (F := Ideal) m ρ)
  · refine (θ_run Cert.ReferenceIdeal.defs _ _).mono (fun _ h c => ⟨(h c).1.trans ?_, (h c).2.1.trans ?_, (h c).2.2⟩) (ref_run (F := Ideal) m' ρ')
    · exact congrArg (OnKernelIdeal.out0 (F := Ideal)) (hagree c)
    · exact congrArg (OnKernelIdeal.out1 (F := Ideal)) (hagree c)

/-- Everything claimed. -/
theorem claim : Cert.Claim := ⟨Cert.Kernel.Gen.facts, Cert.KernelIdeal.Gen.facts, Cert.ReferenceIdeal.Gen.facts,
  frame_words, frame_ideals, frame_reference, trivial, results_agree⟩

end Cert.Proof

end
